-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Kernel2_Kernel2Ideal
    ∧ algebraic_Kernel2Ideal_Reference2Ideal (hKernel2Ideal := hKernel2Ideal) (hReference2Ideal := hReference2Ideal)
-- ==== Pre_finite_router.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S1024 : S_.BroadcastsInDim S1024 (![] : Fin 0 → Fin S1024.rank)
  bcast_S_S1024x8 : S_.BroadcastsInDim S1024x8 (![] : Fin 0 → Fin S1024x8.rank)

variable [Facts]

def fn {F : FTy → Type} [FloatOps F] (main_arg0 : FVec F S8x8192x1024 .f32) (main_arg1 : FVec F S8x8192x512 .bf16) (main_arg2 : FVec F S8x8192x512 .bf16) (main_arg3 : FVec F S1024x1024 .f32) (main_arg4 : FVec F S1024 .f32) (main_arg5 : FVec F S1024x8 .f32) (main_arg6 : FVec F S8x1024x1408 .f32) (main_arg7 : FVec F S8x1024x1408 .f32) (main_arg8 : FVec F S8x1408x1024 .f32) : IVec S1024 1 × IVec S1024x8 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x8 .f32 := Host.absf main_arg5
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Kernel.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S1024x128 : Shape := ⟨2, ![1024, 128]⟩
abbrev S512x1024 : Shape := ⟨2, ![512, 1024]⟩
abbrev S1x1024 : Shape := ⟨2, ![1, 1024]⟩
abbrev S65536x1024 : Shape := ⟨2, ![65536, 1024]⟩
abbrev S65536x512 : Shape := ⟨2, ![65536, 512]⟩
abbrev S1024x512 : Shape := ⟨2, ![1024, 512]⟩
abbrev S1x1024x1408 : Shape := ⟨3, ![1, 1024, 1408]⟩
abbrev S1x1408x1024 : Shape := ⟨3, ![1, 1408, 1024]⟩
abbrev S8x1x1024 : Shape := ⟨3, ![8, 1, 1024]⟩
abbrev S8x128 : Shape := ⟨2, ![8, 128]⟩
abbrev S1024x1 : Shape := ⟨2, ![1024, 1]⟩
abbrev S128x128 : Shape := ⟨2, ![128, 128]⟩
abbrev S1x128 : Shape := ⟨2, ![1, 128]⟩
abbrev S1x1x128 : Shape := ⟨3, ![1, 1, 128]⟩
abbrev S128 : Shape := ⟨1, ![128]⟩
abbrev S1x1x1024 : Shape := ⟨3, ![1, 1, 1024]⟩
abbrev S8 : Shape := ⟨1, ![8]⟩
abbrev S8x1 : Shape := ⟨2, ![8, 1]⟩
abbrev S1x1 : Shape := ⟨2, ![1, 1]⟩
abbrev S288x1024 : Shape := ⟨2, ![288, 1024]⟩
abbrev S1024x1408 : Shape := ⟨2, ![1024, 1408]⟩
abbrev S1408x1024 : Shape := ⟨2, ![1408, 1024]⟩
abbrev S288x1408 : Shape := ⟨2, ![288, 1408]⟩

abbrev nBuf : Space → Nat
  | .hbm => 37
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S8x1024x1408, .f32⟩
  | .hbm, ⟨7, _⟩ => ⟨S8x1024x1408, .f32⟩
  | .hbm, ⟨8, _⟩ => ⟨S8x1408x1024, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1x1024, .f32⟩
  | .hbm, ⟨18, _⟩ => ⟨S1024x128, .f32⟩
  | .hbm, ⟨19, _⟩ => ⟨S1024x128, .f32⟩
  | .hbm, ⟨20, _⟩ => ⟨S1024x128, .bf16⟩
  | .hbm, ⟨21, _⟩ => ⟨S8x1024x1408, .bf16⟩
  | .hbm, ⟨22, _⟩ => ⟨S8x1024x1408, .bf16⟩
  | .hbm, ⟨23, _⟩ => ⟨S8x1408x1024, .bf16⟩
  | .hbm, ⟨24, _⟩ => ⟨S65536x1024, .f32⟩
  | .hbm, ⟨25, _⟩ => ⟨S65536x512, .bf16⟩
  | .hbm, ⟨26, _⟩ => ⟨S65536x512, .bf16⟩
  | .hbm, ⟨27, _⟩ => ⟨S1024x1024, .i32⟩
  | .hbm, ⟨28, _⟩ => ⟨S1024x1024, .i32⟩
  | .hbm, ⟨29, _⟩ => ⟨S1024x1024, .i1⟩
  | .hbm, ⟨30, _⟩ => ⟨S_, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .bf16⟩
  | .hbm, ⟨36, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1024x1024, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S1x1408x1024, .bf16⟩
  | .local _ .vmem, ⟨17, _⟩ => ⟨S1x1408x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x128, .f32⟩
  | .local _ .vmem, ⟨22, _⟩ => ⟨S1024x128, .f32⟩
  | .local _ .vmem, ⟨23, _⟩ => ⟨S8x1x1024, .f32⟩
  | .local _ .vmem, ⟨24, _⟩ => ⟨S8x128, .f32⟩
  | .local _ .vmem, ⟨25, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![64, 8], ![false, false]⟩

def k0_off1 (i : grid0.Coords) : Fin 3 → Nat :=
  let arg1 : BitVec 32 := BitVec.ofNat 32 (i 1).val
  let v11 : Index := Scalar.indexCast arg1
  let c0_3 : Index := 0#32
  let c0_4 : Index := 0#32
  ![v11.toNat, 0, 0]
@[reducible] def k0_t1_loop (v22 : BitVec 32) : Scf.Loop 32 :=
  let c0_i32_17 : BitVec 32 := 0#32
  let c288_i32 : BitVec 32 := 288#32
  let v23 : BitVec 32 := Scalar.addi v22 c288_i32
  let c1_i32 : BitVec 32 := 1#32
  let v24 : BitVec 32 := Scalar.subi v23 c1_i32
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c288_i32_9 : BitVec 32 := 288#32
  let c0_i32_12 : BitVec 32 := 0#32
  let v31 : BitVec 1 := Scalar.cmpi .sgt c288_i32_9 c0_i32_12
  let v32 : BitVec 32 := Scalar.extui v31
  let c0_i32_13 : BitVec 32 := 0#32
  let v33 : BitVec 1 := Scalar.cmpi .slt c288_i32_9 c0_i32_13
  let v34 : BitVec 32 := Scalar.extui v33
  let v35 : BitVec 32 := Scalar.subi v32 v34
  let v36 : BitVec 1 := Scalar.cmpi .ne v30 v35
  let v37 : BitVec 32 := Scalar.remsi v24 c288_i32_9
  let c0_i32_14 : BitVec 32 := 0#32
  let v38 : BitVec 1 := Scalar.cmpi .ne v37 c0_i32_14
  let v39 : BitVec 1 := Scalar.andi v36 v38
  let v25 : BitVec 32 := Scalar.divsi v24 c288_i32_9
  let c1_i32_15 : BitVec 32 := 1#32
  let v40 : BitVec 32 := Scalar.subi v25 c1_i32_15
  let v41 : BitVec 32 := Scalar.select v39 v40 v25
  let v44 : BitVec 32 := Scalar.subi v41 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_19 : BitVec 32 := 1#32
  ⟨c0_i32_17, v48, c1_i32_19⟩

@[reducible] def k0_t2_loop (v22 : BitVec 32) : Scf.Loop 32 :=
  let c0_i32_17 : BitVec 32 := 0#32
  let c288_i32 : BitVec 32 := 288#32
  let v23 : BitVec 32 := Scalar.addi v22 c288_i32
  let c1_i32 : BitVec 32 := 1#32
  let v24 : BitVec 32 := Scalar.subi v23 c1_i32
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c288_i32_9 : BitVec 32 := 288#32
  let c0_i32_12 : BitVec 32 := 0#32
  let v31 : BitVec 1 := Scalar.cmpi .sgt c288_i32_9 c0_i32_12
  let v32 : BitVec 32 := Scalar.extui v31
  let c0_i32_13 : BitVec 32 := 0#32
  let v33 : BitVec 1 := Scalar.cmpi .slt c288_i32_9 c0_i32_13
  let v34 : BitVec 32 := Scalar.extui v33
  let v35 : BitVec 32 := Scalar.subi v32 v34
  let v36 : BitVec 1 := Scalar.cmpi .ne v30 v35
  let v37 : BitVec 32 := Scalar.remsi v24 c288_i32_9
  let c0_i32_14 : BitVec 32 := 0#32
  let v38 : BitVec 1 := Scalar.cmpi .ne v37 c0_i32_14
  let v39 : BitVec 1 := Scalar.andi v36 v38
  let v25 : BitVec 32 := Scalar.divsi v24 c288_i32_9
  let c1_i32_15 : BitVec 32 := 1#32
  let v40 : BitVec 32 := Scalar.subi v25 c1_i32_15
  let v41 : BitVec 32 := Scalar.select v39 v40 v25
  let v44 : BitVec 32 := Scalar.subi v41 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let v45 : BitVec 32 := Scalar.addi c0_i32_17 v44
  let c1_i32_20 : BitVec 32 := 1#32
  ⟨v48, v45, c1_i32_20⟩

def k0_chk1 (v22 : BitVec 32) : Prop :=
  ((k0_t1_loop v22).OK) ∧
  ((k0_t2_loop v22).OK)
theorem k0_t1_ok : ∀ (v22 : BitVec 32) (k0_hw1 : k0_chk1 v22), (k0_t1_loop v22).OK := fun v22 k0_hw1 => k0_hw1.1
theorem k0_t2_ok : ∀ (v22 : BitVec 32) (k0_hw1 : k0_chk1 v22), (k0_t2_loop v22).OK := fun v22 k0_hw1 => k0_hw1.2

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1408x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x8 : Shape := ⟨2, ![1024, 8]⟩
abbrev S8x1024x1408 : Shape := ⟨3, ![8, 1024, 1408]⟩
abbrev S8x1408x1024 : Shape := ⟨3, ![8, 1408, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x8 : Shape := ⟨3, ![8, 8192, 8]⟩
abbrev S8x8192x2 : Shape := ⟨3, ![8, 8192, 2]⟩
abbrev S8x8192x2x1 : Shape := ⟨4, ![8, 8192, 2, 1]⟩
abbrev S1x1x1x8 : Shape := ⟨4, ![1, 1, 1, 8]⟩
abbrev S8x8192x2x8 : Shape := ⟨4, ![8, 8192, 2, 8]⟩
abbrev S1x1024x1408 : Shape := ⟨3, ![1, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S8x8192x1408 : Shape := ⟨3, ![8, 8192, 1408]⟩
abbrev S65536x1024 : Shape := ⟨2, ![65536, 1024]⟩

abbrev nBuf : Space → Nat
  | .hbm => 251
  | .vmem => 0
  | .smem => 0
  | _ => 0

abbrev hbmTy0_0 (i : Nat) : BufTy := match i % 128 with
  | 0 => ⟨S8x8192x1024, .f32⟩
  | 1 => ⟨S8x8192x512, .bf16⟩
  | 2 => ⟨S8x8192x512, .bf16⟩
  | 3 => ⟨S1024x1024, .f32⟩
  | 4 => ⟨S1024, .f32⟩
  | 5 => ⟨S1024x8, .f32⟩
  | 6 => ⟨S8x1024x1408, .f32⟩
  | 7 => ⟨S8x1024x1408, .f32⟩
  | 8 => ⟨S8x1408x1024, .f32⟩
  | 9 => ⟨S8x8192x512, .f32⟩
  | 10 => ⟨S8x8192x512, .f32⟩
  | 11 => ⟨S8x8192x1024, .f32⟩
  | 12 => ⟨S8x8192x1024, .f32⟩
  | 13 => ⟨S8x8192x1024, .f32⟩
  | 14 => ⟨S8x8192x1024, .f32⟩
  | 15 => ⟨S_, .f32⟩
  | 16 => ⟨S8x8192, .f32⟩
  | 17 => ⟨S8x8192x1, .f32⟩
  | 18 => ⟨S_, .f32⟩
  | 19 => ⟨S8x8192x1, .f32⟩
  | 20 => ⟨S8x8192x1, .f32⟩
  | 21 => ⟨S_, .f32⟩
  | 22 => ⟨S8x8192x1, .f32⟩
  | 23 => ⟨S8x8192x1, .f32⟩
  | 24 => ⟨S8x8192x1, .f32⟩
  | 25 => ⟨S8x8192x1024, .f32⟩
  | 26 => ⟨S8x8192x1024, .f32⟩
  | 27 => ⟨S1x1x1024, .f32⟩
  | 28 => ⟨S8x8192x1024, .f32⟩
  | 29 => ⟨S8x8192x1024, .f32⟩
  | 30 => ⟨S8x8192x8, .f32⟩
  | 31 => ⟨S_, .f32⟩
  | 32 => ⟨S8x8192, .f32⟩
  | 33 => ⟨S_, .f32⟩
  | 34 => ⟨S8x8192, .f32⟩
  | 35 => ⟨S8x8192, .f32⟩
  | 36 => ⟨S8x8192x1, .f32⟩
  | 37 => ⟨S8x8192x8, .f32⟩
  | 38 => ⟨S8x8192x8, .f32⟩
  | 39 => ⟨S8x8192x8, .f32⟩
  | 40 => ⟨S_, .f32⟩
  | 41 => ⟨S8x8192, .f32⟩
  | 42 => ⟨S8x8192x1, .f32⟩
  | 43 => ⟨S8x8192x8, .f32⟩
  | 44 => ⟨S8x8192x8, .f32⟩
  | 45 => ⟨S8x8192x2, .f32⟩
  | 46 => ⟨S8x8192x2, .i32⟩
  | 47 => ⟨S_, .f32⟩
  | 48 => ⟨S8x8192, .f32⟩
  | 49 => ⟨S8x8192x1, .f32⟩
  | 50 => ⟨S8x8192x2, .f32⟩
  | 51 => ⟨S8x8192x2, .f32⟩
  | 52 => ⟨S8x8192x2x1, .i32⟩
  | 53 => ⟨S1x1x1x8, .i32⟩
  | 54 => ⟨S8x8192x2x8, .i32⟩
  | 55 => ⟨S8x8192x2x8, .i32⟩
  | 56 => ⟨S8x8192x2x8, .i1⟩
  | 57 => ⟨S8x8192x2x8, .f32⟩
  | 58 => ⟨S8x8192x2x1, .f32⟩
  | 59 => ⟨S8x8192x2x8, .f32⟩
  | 60 => ⟨S8x8192x2x8, .f32⟩
  | 61 => ⟨S_, .f32⟩
  | 62 => ⟨S8x8192x8, .f32⟩
  | 63 => ⟨S_, .f32⟩
  | 64 => ⟨S8x8192x1024, .f32⟩
  | 65 => ⟨S8x8192x1, .f32⟩
  | 66 => ⟨S1x1024x1408, .f32⟩
  | 67 => ⟨S1024x1408, .f32⟩
  | 68 => ⟨S1x1024x1408, .f32⟩
  | 69 => ⟨S1024x1408, .f32⟩
  | 70 => ⟨S1x1408x1024, .f32⟩
  | 71 => ⟨S1408x1024, .f32⟩
  | 72 => ⟨S8x8192x1408, .f32⟩
  | 73 => ⟨S8x8192x1408, .f32⟩
  | 74 => ⟨S8x8192x1408, .f32⟩
  | 75 => ⟨S_, .f32⟩
  | 76 => ⟨S8x8192x1408, .f32⟩
  | 77 => ⟨S8x8192x1408, .f32⟩
  | 78 => ⟨S_, .f32⟩
  | 79 => ⟨S8x8192x1408, .f32⟩
  | 80 => ⟨S8x8192x1408, .f32⟩
  | 81 => ⟨S8x8192x1408, .f32⟩
  | 82 => ⟨S8x8192x1408, .f32⟩
  | 83 => ⟨S8x8192x1408, .f32⟩
  | 84 => ⟨S8x8192x1024, .f32⟩
  | 85 => ⟨S8x8192x1024, .f32⟩
  | 86 => ⟨S8x8192x1024, .f32⟩
  | 87 => ⟨S8x8192x1024, .f32⟩
  | 88 => ⟨S8x8192x1, .f32⟩
  | 89 => ⟨S1x1024x1408, .f32⟩
  | 90 => ⟨S1024x1408, .f32⟩
  | 91 => ⟨S1x1024x1408, .f32⟩
  | 92 => ⟨S1024x1408, .f32⟩
  | 93 => ⟨S1x1408x1024, .f32⟩
  | 94 => ⟨S1408x1024, .f32⟩
  | 95 => ⟨S8x8192x1408, .f32⟩
  | 96 => ⟨S8x8192x1408, .f32⟩
  | 97 => ⟨S8x8192x1408, .f32⟩
  | 98 => ⟨S_, .f32⟩
  | 99 => ⟨S8x8192x1408, .f32⟩
  | 100 => ⟨S8x8192x1408, .f32⟩
  | 101 => ⟨S_, .f32⟩
  | 102 => ⟨S8x8192x1408, .f32⟩
  | 103 => ⟨S8x8192x1408, .f32⟩
  | 104 => ⟨S8x8192x1408, .f32⟩
  | 105 => ⟨S8x8192x1408, .f32⟩
  | 106 => ⟨S8x8192x1408, .f32⟩
  | 107 => ⟨S8x8192x1024, .f32⟩
  | 108 => ⟨S8x8192x1024, .f32⟩
  | 109 => ⟨S8x8192x1024, .f32⟩
  | 110 => ⟨S8x8192x1024, .f32⟩
  | 111 => ⟨S8x8192x1, .f32⟩
  | 112 => ⟨S1x1024x1408, .f32⟩
  | 113 => ⟨S1024x1408, .f32⟩
  | 114 => ⟨S1x1024x1408, .f32⟩
  | 115 => ⟨S1024x1408, .f32⟩
  | 116 => ⟨S1x1408x1024, .f32⟩
  | 117 => ⟨S1408x1024, .f32⟩
  | 118 => ⟨S8x8192x1408, .f32⟩
  | 119 => ⟨S8x8192x1408, .f32⟩
  | 120 => ⟨S8x8192x1408, .f32⟩
  | 121 => ⟨S_, .f32⟩
  | 122 => ⟨S8x8192x1408, .f32⟩
  | 123 => ⟨S8x8192x1408, .f32⟩
  | 124 => ⟨S_, .f32⟩
  | 125 => ⟨S8x8192x1408, .f32⟩
  | 126 => ⟨S8x8192x1408, .f32⟩
  | 127 => ⟨S8x8192x1408, .f32⟩
  | _ => ⟨S8x8192x1024, .f32⟩

abbrev hbmTy0_1 (i : Nat) : BufTy := match i % 128 with
  | 0 => ⟨S8x8192x1408, .f32⟩
  | 1 => ⟨S8x8192x1408, .f32⟩
  | 2 => ⟨S8x8192x1024, .f32⟩
  | 3 => ⟨S8x8192x1024, .f32⟩
  | 4 => ⟨S8x8192x1024, .f32⟩
  | 5 => ⟨S8x8192x1024, .f32⟩
  | 6 => ⟨S8x8192x1, .f32⟩
  | 7 => ⟨S1x1024x1408, .f32⟩
  | 8 => ⟨S1024x1408, .f32⟩
  | 9 => ⟨S1x1024x1408, .f32⟩
  | 10 => ⟨S1024x1408, .f32⟩
  | 11 => ⟨S1x1408x1024, .f32⟩
  | 12 => ⟨S1408x1024, .f32⟩
  | 13 => ⟨S8x8192x1408, .f32⟩
  | 14 => ⟨S8x8192x1408, .f32⟩
  | 15 => ⟨S8x8192x1408, .f32⟩
  | 16 => ⟨S_, .f32⟩
  | 17 => ⟨S8x8192x1408, .f32⟩
  | 18 => ⟨S8x8192x1408, .f32⟩
  | 19 => ⟨S_, .f32⟩
  | 20 => ⟨S8x8192x1408, .f32⟩
  | 21 => ⟨S8x8192x1408, .f32⟩
  | 22 => ⟨S8x8192x1408, .f32⟩
  | 23 => ⟨S8x8192x1408, .f32⟩
  | 24 => ⟨S8x8192x1408, .f32⟩
  | 25 => ⟨S8x8192x1024, .f32⟩
  | 26 => ⟨S8x8192x1024, .f32⟩
  | 27 => ⟨S8x8192x1024, .f32⟩
  | 28 => ⟨S8x8192x1024, .f32⟩
  | 29 => ⟨S8x8192x1, .f32⟩
  | 30 => ⟨S1x1024x1408, .f32⟩
  | 31 => ⟨S1024x1408, .f32⟩
  | 32 => ⟨S1x1024x1408, .f32⟩
  | 33 => ⟨S1024x1408, .f32⟩
  | 34 => ⟨S1x1408x1024, .f32⟩
  | 35 => ⟨S1408x1024, .f32⟩
  | 36 => ⟨S8x8192x1408, .f32⟩
  | 37 => ⟨S8x8192x1408, .f32⟩
  | 38 => ⟨S8x8192x1408, .f32⟩
  | 39 => ⟨S_, .f32⟩
  | 40 => ⟨S8x8192x1408, .f32⟩
  | 41 => ⟨S8x8192x1408, .f32⟩
  | 42 => ⟨S_, .f32⟩
  | 43 => ⟨S8x8192x1408, .f32⟩
  | 44 => ⟨S8x8192x1408, .f32⟩
  | 45 => ⟨S8x8192x1408, .f32⟩
  | 46 => ⟨S8x8192x1408, .f32⟩
  | 47 => ⟨S8x8192x1408, .f32⟩
  | 48 => ⟨S8x8192x1024, .f32⟩
  | 49 => ⟨S8x8192x1024, .f32⟩
  | 50 => ⟨S8x8192x1024, .f32⟩
  | 51 => ⟨S8x8192x1024, .f32⟩
  | 52 => ⟨S8x8192x1, .f32⟩
  | 53 => ⟨S1x1024x1408, .f32⟩
  | 54 => ⟨S1024x1408, .f32⟩
  | 55 => ⟨S1x1024x1408, .f32⟩
  | 56 => ⟨S1024x1408, .f32⟩
  | 57 => ⟨S1x1408x1024, .f32⟩
  | 58 => ⟨S1408x1024, .f32⟩
  | 59 => ⟨S8x8192x1408, .f32⟩
  | 60 => ⟨S8x8192x1408, .f32⟩
  | 61 => ⟨S8x8192x1408, .f32⟩
  | 62 => ⟨S_, .f32⟩
  | 63 => ⟨S8x8192x1408, .f32⟩
  | 64 => ⟨S8x8192x1408, .f32⟩
  | 65 => ⟨S_, .f32⟩
  | 66 => ⟨S8x8192x1408, .f32⟩
  | 67 => ⟨S8x8192x1408, .f32⟩
  | 68 => ⟨S8x8192x1408, .f32⟩
  | 69 => ⟨S8x8192x1408, .f32⟩
  | 70 => ⟨S8x8192x1408, .f32⟩
  | 71 => ⟨S8x8192x1024, .f32⟩
  | 72 => ⟨S8x8192x1024, .f32⟩
  | 73 => ⟨S8x8192x1024, .f32⟩
  | 74 => ⟨S8x8192x1024, .f32⟩
  | 75 => ⟨S8x8192x1, .f32⟩
  | 76 => ⟨S1x1024x1408, .f32⟩
  | 77 => ⟨S1024x1408, .f32⟩
  | 78 => ⟨S1x1024x1408, .f32⟩
  | 79 => ⟨S1024x1408, .f32⟩
  | 80 => ⟨S1x1408x1024, .f32⟩
  | 81 => ⟨S1408x1024, .f32⟩
  | 82 => ⟨S8x8192x1408, .f32⟩
  | 83 => ⟨S8x8192x1408, .f32⟩
  | 84 => ⟨S8x8192x1408, .f32⟩
  | 85 => ⟨S_, .f32⟩
  | 86 => ⟨S8x8192x1408, .f32⟩
  | 87 => ⟨S8x8192x1408, .f32⟩
  | 88 => ⟨S_, .f32⟩
  | 89 => ⟨S8x8192x1408, .f32⟩
  | 90 => ⟨S8x8192x1408, .f32⟩
  | 91 => ⟨S8x8192x1408, .f32⟩
  | 92 => ⟨S8x8192x1408, .f32⟩
  | 93 => ⟨S8x8192x1408, .f32⟩
  | 94 => ⟨S8x8192x1024, .f32⟩
  | 95 => ⟨S8x8192x1024, .f32⟩
  | 96 => ⟨S8x8192x1024, .f32⟩
  | 97 => ⟨S8x8192x1024, .f32⟩
  | 98 => ⟨S8x8192x1, .f32⟩
  | 99 => ⟨S1x1024x1408, .f32⟩
  | 100 => ⟨S1024x1408, .f32⟩
  | 101 => ⟨S1x1024x1408, .f32⟩
  | 102 => ⟨S1024x1408, .f32⟩
  | 103 => ⟨S1x1408x1024, .f32⟩
  | 104 => ⟨S1408x1024, .f32⟩
  | 105 => ⟨S8x8192x1408, .f32⟩
  | 106 => ⟨S8x8192x1408, .f32⟩
  | 107 => ⟨S8x8192x1408, .f32⟩
  | 108 => ⟨S_, .f32⟩
  | 109 => ⟨S8x8192x1408, .f32⟩
  | 110 => ⟨S8x8192x1408, .f32⟩
  | 111 => ⟨S_, .f32⟩
  | 112 => ⟨S8x8192x1408, .f32⟩
  | 113 => ⟨S8x8192x1408, .f32⟩
  | 114 => ⟨S8x8192x1408, .f32⟩
  | 115 => ⟨S8x8192x1408, .f32⟩
  | 116 => ⟨S8x8192x1408, .f32⟩
  | 117 => ⟨S8x8192x1024, .f32⟩
  | 118 => ⟨S8x8192x1024, .f32⟩
  | 119 => ⟨S8x8192x1024, .f32⟩
  | 120 => ⟨S8x8192x1024, .f32⟩
  | 121 => ⟨S8x8192x1024, .f32⟩
  | 122 => ⟨S65536x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_values : Ref sig .tc := ⟨.hbm, 45, rfl⟩
abbrev main_indices : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_call4_v0 : Ref sig .tc := ⟨.hbm, 142, rfl⟩
abbrev main_call4_v1 : Ref sig .tc := ⟨.hbm, 143, rfl⟩
abbrev main_call4_cst : Ref sig .tc := ⟨.hbm, 144, rfl⟩
abbrev main_call4_v2 : Ref sig .tc := ⟨.hbm, 145, rfl⟩
abbrev main_call4_v3 : Ref sig .tc := ⟨.hbm, 146, rfl⟩
abbrev main_call4_cst_0 : Ref sig .tc := ⟨.hbm, 147, rfl⟩
abbrev main_call4_v4 : Ref sig .tc := ⟨.hbm, 148, rfl⟩
abbrev main_call4_v5 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_call5_v0 : Ref sig .tc := ⟨.hbm, 165, rfl⟩
abbrev main_call5_v1 : Ref sig .tc := ⟨.hbm, 166, rfl⟩
abbrev main_call5_cst : Ref sig .tc := ⟨.hbm, 167, rfl⟩
abbrev main_call5_v2 : Ref sig .tc := ⟨.hbm, 168, rfl⟩
abbrev main_call5_v3 : Ref sig .tc := ⟨.hbm, 169, rfl⟩
abbrev main_call5_cst_0 : Ref sig .tc := ⟨.hbm, 170, rfl⟩
abbrev main_call5_v4 : Ref sig .tc := ⟨.hbm, 171, rfl⟩
abbrev main_call5_v5 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_call6_v0 : Ref sig .tc := ⟨.hbm, 188, rfl⟩
abbrev main_call6_v1 : Ref sig .tc := ⟨.hbm, 189, rfl⟩
abbrev main_call6_cst : Ref sig .tc := ⟨.hbm, 190, rfl⟩
abbrev main_call6_v2 : Ref sig .tc := ⟨.hbm, 191, rfl⟩
abbrev main_call6_v3 : Ref sig .tc := ⟨.hbm, 192, rfl⟩
abbrev main_call6_cst_0 : Ref sig .tc := ⟨.hbm, 193, rfl⟩
abbrev main_call6_v4 : Ref sig .tc := ⟨.hbm, 194, rfl⟩
abbrev main_call6_v5 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_call7_v0 : Ref sig .tc := ⟨.hbm, 211, rfl⟩
abbrev main_call7_v1 : Ref sig .tc := ⟨.hbm, 212, rfl⟩
abbrev main_call7_cst : Ref sig .tc := ⟨.hbm, 213, rfl⟩
abbrev main_call7_v2 : Ref sig .tc := ⟨.hbm, 214, rfl⟩
abbrev main_call7_v3 : Ref sig .tc := ⟨.hbm, 215, rfl⟩
abbrev main_call7_cst_0 : Ref sig .tc := ⟨.hbm, 216, rfl⟩
abbrev main_call7_v4 : Ref sig .tc := ⟨.hbm, 217, rfl⟩
abbrev main_call7_v5 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_call8_v0 : Ref sig .tc := ⟨.hbm, 234, rfl⟩
abbrev main_call8_v1 : Ref sig .tc := ⟨.hbm, 235, rfl⟩
abbrev main_call8_cst : Ref sig .tc := ⟨.hbm, 236, rfl⟩
abbrev main_call8_v2 : Ref sig .tc := ⟨.hbm, 237, rfl⟩
abbrev main_call8_v3 : Ref sig .tc := ⟨.hbm, 238, rfl⟩
abbrev main_call8_cst_0 : Ref sig .tc := ⟨.hbm, 239, rfl⟩
abbrev main_call8_v4 : Ref sig .tc := ⟨.hbm, 240, rfl⟩
abbrev main_call8_v5 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S65536x1024 : Shape := ⟨2, ![65536, 1024]⟩
abbrev S65536x512 : Shape := ⟨2, ![65536, 512]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 20
  | .vmem => 14
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S65536x1024, .f32⟩
  | .hbm, ⟨17, _⟩ => ⟨S65536x512, .bf16⟩
  | .hbm, ⟨18, _⟩ => ⟨S65536x512, .bf16⟩
  | .hbm, ⟨19, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x8192x512, .f32⟩
  | .hbm, ⟨9, _⟩ => ⟨S8x8192x512, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S8x8192x1, .f32⟩
  | .hbm, ⟨24, _⟩ => ⟨S8x8192x1024, .f32⟩
  | .hbm, ⟨25, _⟩ => ⟨S8x8192x1024, .f32⟩
  | .hbm, ⟨26, _⟩ => ⟨S1x1x1024, .f32⟩
  | .hbm, ⟨27, _⟩ => ⟨S8x8192x1024, .f32⟩
  | .hbm, ⟨28, _⟩ => ⟨S8x8192x1024, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S_, .f32⟩
  | .hbm, ⟨33, _⟩ => ⟨S8x8192x2816, .f32⟩
  | .hbm, ⟨34, _⟩ => ⟨S8x8192x2816, .f32⟩
  | .hbm, ⟨35, _⟩ => ⟨S_, .f32⟩
  | .hbm, ⟨36, _⟩ => ⟨S8x8192x2816, .f32⟩
  | .hbm, ⟨37, _⟩ => ⟨S8x8192x2816, .f32⟩
  | .hbm, ⟨38, _⟩ => ⟨S8x8192x2816, .f32⟩
  | .hbm, ⟨39, _⟩ => ⟨S8x8192x2816, .f32⟩
  | .hbm, ⟨40, _⟩ => ⟨S8x8192x2816, .f32⟩
  | .hbm, ⟨41, _⟩ => ⟨S8x8192x1024, .f32⟩
  | .hbm, ⟨42, _⟩ => ⟨S8x8192x1024, .f32⟩
  | .hbm, ⟨43, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Proof.Rows.lean ====
/- One token's row through the block's second half, written plainly on extended reals: the mixer outputs projected and
   added to the residual row, the root-mean-square norm, and one SwiGLU feed-forward. Both kernels and both references
   are read as these three functions. -/
module

public import Idealize.ShloMosaic.Lib.Pipeline.ValueKit

@[expose] public section

noncomputable section

namespace Cert.Rows

open Idealize.ShloMosaic

/-- The residual row after the out-projection: `x + a · wa + b · wb`. -/
def mix (x : Fin 1024 → EReal) (a b : Fin 512 → EReal) (wa wb : Fin 512 → Fin 1024 → EReal) : Fin 1024 → EReal :=
  fun j => x j + ∑ k, a k * wa k j + ∑ k, b k * wb k j

/-- The root-mean-square norm of a row, scaled by `g`: the divisor is 1024 and the shift 1e-6, as f32 words. -/
def norm (x g : Fin 1024 → EReal) : Fin 1024 → EReal :=
  fun j => x j * Ideal.rsqrt (Ideal.div (∑ k, x k * x k) (Ideal.ofBits .f32 0x44800000#32) + Ideal.ofBits .f32 0x358637BD#32) * g j

/-- `a · (1 / (1 + exp (−a)))`. -/
def silu (a : EReal) : EReal :=
  a * Ideal.div (Ideal.ofBits .f32 0x3F800000#32) (Ideal.ofBits .f32 0x3F800000#32 + Ideal.exp (-a))

/-- A row through one SwiGLU feed-forward of width `n`. -/
def swiglu {n : ℕ} (h : Fin 1024 → EReal) (wg wu : Fin 1024 → Fin n → EReal) (wd : Fin n → Fin 1024 → EReal) :
    Fin 1024 → EReal :=
  fun j => ∑ f, silu (∑ k, h k * wg k f) * (∑ k, h k * wu k f) * wd f j

end Cert.Rows

end
-- ==== Proof.Dense.Kernel.lean ====
/- What the dense feed-forward kernel's body stores for a tile of 512 tokens, at an index: the token's row through
   `Rows.mix`, `Rows.norm` and `Rows.swiglu`. -/
module

public import proofs.«01_k».proof.Proof.Gen.Kernel2Ideal.Frame
public import proofs.«01_k».proof.Proof.Rows
public import Idealize.ShloMosaic.Lib.Pipeline.ValueKit

@[expose] public section

set_option maxRecDepth 16384

noncomputable section

namespace Cert.Kernel2Ideal.Dense

open Idealize.ShloMosaic Idealize.ShloMosaic.TcCoe Idealize.SL.Sem
open Idealize.ShloMosaic.Pipeline (Dat)
open Cert.Kernel2Ideal Cert.Kernel2Ideal.Gen

/-- The residual row the tile's token `y 0` has after the out-projection. -/
theorem pay2_apply (x : Vec Ideal S512x1024 .f32) (a : Vec Ideal S512x512 .bf16) (wa : Vec Ideal S512x1024 .bf16)
    (b : Vec Ideal S512x512 .bf16) (wb : Vec Ideal S512x1024 .bf16) (y : S512x1024.Idx) :
    k0_pay2 x a wa b wb y = Rows.mix (fun j => x (ix2 (y 0) j)) (fun k => a (ix2 (y 0) k)) (fun k => b (ix2 (y 0) k))
      (fun k j => wa (ix2 k j)) (fun k j => wb (ix2 k j)) (y 1) := by
  pointwise [k0_pay2, Rows.mix]

/-- The tile's normed rows, over the residual rows. -/
theorem pay3_apply (x : Vec Ideal S512x1024 .f32) (a : Vec Ideal S512x512 .bf16) (wa : Vec Ideal S512x1024 .bf16)
    (b : Vec Ideal S512x512 .bf16) (wb : Vec Ideal S512x1024 .bf16) (g : Vec Ideal S1x1024 .f32) (y : S512x1024.Idx) :
    k0_pay3 x a wa b wb g y = Rows.norm (fun j => k0_pay2 x a wa b wb (ix2 (y 0) j)) (fun j => g (ix2 0 j)) (y 1) := by
  unfold k0_pay3
  generalize k0_pay2 x a wa b wb = u
  pointwise [Rows.norm]

/-- The stored tile: the residual row plus its feed-forward. -/
theorem pay1_apply (u : FVec Ideal S512x1024 .f32) (h : FVec Ideal S512x1024 .bf16) (wg wu : Vec Ideal S1024x2816 .bf16)
    (wd : Vec Ideal S2816x1024 .bf16) (y : S512x1024.Idx) :
    k0_pay1 u h (k0_pay4 wg) (k0_pay5 wu) (k0_pay6 wd) (constant S512x2816 .f32 0x00000000#32) y
      = u y + Rows.swiglu (fun j => h (ix2 (y 0) j)) (fun k f => wg (ix2 k f)) (fun k f => wu (ix2 k f))
          (fun f j => wd (ix2 f j)) (y 1) := by
  pointwise [k0_pay1, k0_pay4, k0_pay5, k0_pay6, Rows.swiglu, Rows.silu]
  simp only [zero_sub]

end Cert.Kernel2Ideal.Dense

end
-- ==== Proof.Dense.Value.lean ====
/- The array the dense feed-forward kernel leaves: row `i` is `ROW` of row `i` of the arguments, read as 65536 rows. -/
module

public import proofs.«01_k».proof.Proof.Dense.Kernel
public import Idealize.ShloMosaic.Lib.Claim

@[expose] public section

set_option maxRecDepth 16384

noncomputable section

namespace Cert.Kernel2Ideal.Dense

open Idealize.ShloMosaic Idealize.ShloMosaic.TcCoe Idealize.SL.Sem
open Idealize.ShloMosaic.Pipeline (Dat)
open Cert.Kernel2Ideal Cert.Kernel2Ideal.Gen

/-- The result over the arguments, token `(b, t)` of 8 × 8192. -/
def ROW (x : Vec Ideal S8x8192x1024 .f32) (yc at' : Vec Ideal S8x8192x512 .bf16) (w : Vec Ideal S1024x1024 .f32)
    (g : Vec Ideal S1024 .f32) (wg wu : Vec Ideal S1024x2816 .f32) (wd : Vec Ideal S2816x1024 .f32) (b : Fin 8) (t : Fin 8192) :
    Fin 1024 → EReal :=
  let u := Rows.mix (fun j => x (ix3 b t j)) (fun k => yc (ix3 b t k)) (fun k => at' (ix3 b t k))
    (fun k j => w (ix2 ⟨k.val, by omega⟩ j)) (fun k j => w (ix2 ⟨512 + k.val, by omega⟩ j))
  fun j => u j + Rows.swiglu (Rows.norm u fun j => g (ix1 j)) (fun k f => wg (ix2 k f)) (fun k f => wu (ix2 k f))
    (fun f j => wd (ix2 f j)) j

variable (m : (ℓ : Loc nD τ sig) → Buf (Elt Ideal) ℓ)

/-- The windows' block indices: the three token windows and the result move with the point, the rest stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- Row `r` of tile `t` of the residual stream. -/
theorem rd0 (c : Dev nD) (t : Fin cfg0.N) (r : Fin 512) (j : Fin 1024) (b : Fin 8) (s : Fin 8192)
    (h : b.val * 8192 + s.val = t.val * 512 + r.val) :
    iblk m c 0 t (ix2 r j) = m ((c : Thread nD τ).loc main_arg0) (ix3 b s j) := by
  unfold iblk V
  blk_simp
  entry_read
  pointwise
  blk_ext [idx t]

/-- Row `r` of tile `t` of the convolution branch. -/
theorem rd1 (c : Dev nD) (t : Fin cfg0.N) (r : Fin 512) (j : Fin 512) (b : Fin 8) (s : Fin 8192)
    (h : b.val * 8192 + s.val = t.val * 512 + r.val) :
    iblk m c 1 t (ix2 r j) = m ((c : Thread nD τ).loc main_arg1) (ix3 b s j) := by
  unfold iblk V
  blk_simp
  entry_read
  pointwise
  blk_ext [idx t]

/-- Row `r` of tile `t` of the attention branch. -/
theorem rd2 (c : Dev nD) (t : Fin cfg0.N) (r : Fin 512) (j : Fin 512) (b : Fin 8) (s : Fin 8192)
    (h : b.val * 8192 + s.val = t.val * 512 + r.val) :
    iblk m c 2 t (ix2 r j) = m ((c : Thread nD τ).loc main_arg2) (ix3 b s j) := by
  unfold iblk V
  blk_simp
  entry_read
  pointwise
  blk_ext [idx t]

/-- The upper half of the out-projection. -/
theorem rd3 (c : Dev nD) (t : Fin cfg0.N) (k : Fin 512) (j : Fin 1024) :
    iblk m c 3 t (ix2 k j) = m ((c : Thread nD τ).loc main_arg3) (ix2 ⟨k.val, by omega⟩ j) := by
  unfold iblk V
  blk_simp
  entry_read
  pointwise
  blk_ext [idx t]

/-- Its lower half. -/
theorem rd4 (c : Dev nD) (t : Fin cfg0.N) (k : Fin 512) (j : Fin 1024) :
    iblk m c 4 t (ix2 k j) = m ((c : Thread nD τ).loc main_arg3) (ix2 ⟨512 + k.val, by omega⟩ j) := by
  unfold iblk V
  blk_simp
  entry_read
  pointwise
  blk_ext [idx t]

/-- The norm's scale. -/
theorem rd5 (c : Dev nD) (t : Fin cfg0.N) (j : Fin 1024) :
    iblk m c 5 t (ix2 0 j) = m ((c : Thread nD τ).loc main_arg4) (ix1 j) := by
  unfold iblk V
  blk_simp
  entry_read
  pointwise
  blk_ext [idx t]

/-- The gate weights. -/
theorem rd6 (c : Dev nD) (t : Fin cfg0.N) (k : Fin 1024) (f : Fin 2816) :
    iblk m c 6 t (ix2 k f) = m ((c : Thread nD τ).loc main_arg5) (ix2 k f) := by
  blk_ext [iblk, V, idx t]

/-- The up weights. -/
theorem rd7 (c : Dev nD) (t : Fin cfg0.N) (k : Fin 1024) (f : Fin 2816) :
    iblk m c 7 t (ix2 k f) = m ((c : Thread nD τ).loc main_arg6) (ix2 k f) := by
  blk_ext [iblk, V, idx t]

/-- The down weights. -/
theorem rd8 (c : Dev nD) (t : Fin cfg0.N) (f : Fin 2816) (j : Fin 1024) :
    iblk m c 8 t (ix2 f j) = m ((c : Thread nD τ).loc main_arg7) (ix2 f j) := by
  blk_ext [iblk, V, idx t]

/-- The array of 65536 rows the kernel leaves. -/
theorem final (c : Dev nD) : (dats m 0 c).arrAt 9 (cfgs 0).N = fun i : S65536x1024.Idx =>
    ROW (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))
      ⟨(i 0).val / 8192, by have := (i 0).isLt; simp at this; omega⟩ ⟨(i 0).val % 8192, by omega⟩ (i 1) := by
  refine (dats m 0 c).arrAt_eq_of_covers 9 _ (by decide +kernel) fun t _ y => ?_
  blk_simp
  rw [after0_9]; frame_out
  rw [pay1_apply]
  simp only [pay3_apply, pay2_apply]
  have hy : (((View.whole main_v11).slice (win0_9.rect t)).emb y 1) = y 1 := by
    apply Fin.ext
    blk_simp [idx t]
  rw [hy]
  have ht : win0_9.index t 0 = t.val := by rw [(idx t).2.2.2.2.2.2.2.2.2]; rfl
  simp only [ht]
  obtain ⟨r, j, rfl⟩ : ∃ (r : Fin 512) (j : Fin 1024), y = ix2 r j := ⟨y 0, y 1, by ext a; fin_cases a <;> rfl⟩
  have hb : t.val * 512 + r.val < 65536 := by have : t.val < 128 := t.isLt; omega
  simp only [ix2_0, ix2_1]
  unfold ROW
  have e0 := fun j => rd0 m c t r j ⟨(t.val * 512 + r.val) / 8192, by omega⟩ ⟨(t.val * 512 + r.val) % 8192, by omega⟩ (by simp; omega)
  have e1 := fun j => rd1 m c t r j ⟨(t.val * 512 + r.val) / 8192, by omega⟩ ⟨(t.val * 512 + r.val) % 8192, by omega⟩ (by simp; omega)
  have e2 := fun j => rd2 m c t r j ⟨(t.val * 512 + r.val) / 8192, by omega⟩ ⟨(t.val * 512 + r.val) % 8192, by omega⟩ (by simp; omega)
  simp only [e0, e1, e2, rd3, rd4, rd5, rd6, rd7, rd8]

end Cert.Kernel2Ideal.Dense

end
-- ==== Proof.Dense.Reference.lean ====
/- The dense reference's result at an index, and the value claim. -/
module

public import proofs.«01_k».proof.Defs
public import proofs.«01_k».proof.Proof.Gen.Reference2Ideal
public import proofs.«01_k».proof.Proof.Dense.Value
public import Idealize.ShloMosaic.Lib.Claim

@[expose] public section

set_option maxRecDepth 16384

noncomputable section

namespace Cert.Reference2Ideal.Dense

open Idealize.ShloMosaic Idealize.ShloMosaic.TcCoe Idealize.SL.Sem
open Cert.Reference2Ideal Cert.Reference2Ideal.Gen

/-- The reference's residual stream after the out-projection. -/
def MIX (x : FVec Ideal S8x8192x1024 .f32) (yc at' : FVec Ideal S8x8192x512 .bf16) (w : FVec Ideal S1024x1024 .f32) :
    FVec Ideal S8x8192x1024 .f32 :=
  addf x (Host.dotGeneral dot_S8x8192x1024_S1024x1024_S8x8192x1024_2_0_01_1_n_n none
    (concatenate S8x8192x1024 2 [⟨S8x8192x512, extf .f32 yc bitsLt_bf16_f32⟩, ⟨S8x8192x512, extf .f32 at' bitsLt_bf16_f32⟩]
      concatenates_S8x8192x512_S8x8192x512_S8x8192x1024_d2) w)

/-- Its norm. -/
def NORM (u : FVec Ideal S8x8192x1024 .f32) (g : FVec Ideal S1024 .f32) : FVec Ideal S8x8192x1024 .f32 :=
  mulf (mulf u (broadcastInDim S8x8192x1024 ![0, 1, 2] bcast_S8x8192x1_S8x8192x1024_0_1_2
    (Host.rsqrt (addf (Host.divf (broadcastInDim S8x8192x1 ![0, 1] bcast_S8x8192_S8x8192x1_0_1
        (Host.reduceAdd (mulf u u) (constant S_ .f32 0x00000000#32) reducesTo_S8x8192x1024_S8x8192_d2 h_S_))
      (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![2] bcast_S1024_S1x1x1024_2 g))

/-- Its sigmoid-weighted unit. -/
def SILU (a : FVec Ideal S8x8192x2816 .f32) : FVec Ideal S8x8192x2816 .f32 :=
  mulf a (Host.divf (broadcastInDim S8x8192x2816 ![] bcast_S_S8x8192x2816 (constant S_ .f32 0x3F800000#32))
    (addf (broadcastInDim S8x8192x2816 ![] bcast_S_S8x8192x2816 (constant S_ .f32 0x3F800000#32)) (Host.exp (Host.negf a))))

/-- The residual stream plus the feed-forward of `h`. -/
def FFN (u h : FVec Ideal S8x8192x1024 .f32) (wg wu : FVec Ideal S1024x2816 .f32) (wd : FVec Ideal S2816x1024 .f32) :
    FVec Ideal S8x8192x1024 .f32 :=
  addf u (Host.dotGeneral dot_S8x8192x2816_S2816x1024_S8x8192x1024_2_0_01_1_n_n none
    (mulf (SILU (Host.dotGeneral dot_S8x8192x1024_S1024x2816_S8x8192x2816_2_0_01_1_n_n none h wg))
      (Host.dotGeneral dot_S8x8192x1024_S1024x2816_S8x8192x2816_2_0_01_1_n_n none h wu)) wd)

/-- The residual stream at an index. -/
theorem MIX_apply (x : FVec Ideal S8x8192x1024 .f32) (yc at' : FVec Ideal S8x8192x512 .bf16) (w : FVec Ideal S1024x1024 .f32)
    (b : Fin 8) (t : Fin 8192) (j : Fin 1024) :
    MIX x yc at' w (ix3 b t j) = Rows.mix (fun j => x (ix3 b t j)) (fun k => yc (ix3 b t k)) (fun k => at' (ix3 b t k))
      (fun k j => w (ix2 ⟨k.val, by omega⟩ j)) (fun k j => w (ix2 ⟨512 + k.val, by omega⟩ j)) j := by
  pointwise [MIX, Rows.mix]
  rw [add_assoc]

/-- The norm at an index. -/
theorem NORM_apply (u : FVec Ideal S8x8192x1024 .f32) (g : FVec Ideal S1024 .f32) (b : Fin 8) (t : Fin 8192) (j : Fin 1024) :
    NORM u g (ix3 b t j) = Rows.norm (fun j => u (ix3 b t j)) (fun j => g (ix1 j)) j := by
  pointwise [NORM, Rows.norm]

/-- The feed-forward at an index. -/
theorem FFN_apply (u h : FVec Ideal S8x8192x1024 .f32) (wg wu : FVec Ideal S1024x2816 .f32) (wd : FVec Ideal S2816x1024 .f32)
    (b : Fin 8) (t : Fin 8192) (j : Fin 1024) :
    FFN u h wg wu wd (ix3 b t j) = u (ix3 b t j) + Rows.swiglu (fun j => h (ix3 b t j)) (fun k f => wg (ix2 k f))
      (fun k f => wu (ix2 k f)) (fun f j => wd (ix2 f j)) j := by
  pointwise [FFN, SILU, Rows.swiglu, Rows.silu]

/-- The reference's result at token `(b, t)`. -/
theorem row_apply (x : FVec Ideal S8x8192x1024 .f32) (yc at' : FVec Ideal S8x8192x512 .bf16) (w : FVec Ideal S1024x1024 .f32)
    (g : FVec Ideal S1024 .f32) (wg wu : FVec Ideal S1024x2816 .f32) (wd : FVec Ideal S2816x1024 .f32)
    (b : Fin 8) (t : Fin 8192) (j : Fin 1024) :
    FFN (MIX x yc at' w) (NORM (MIX x yc at' w) g) wg wu wd (ix3 b t j)
      = Cert.Kernel2Ideal.Dense.ROW x yc at' w g wg wu wd b t j := by
  rw [FFN_apply, MIX_apply]
  simp only [NORM_apply, MIX_apply]
  rfl

/-- The reference's result, row `i` of 65536. -/
theorem ref_apply (x : FVec Ideal S8x8192x1024 .f32) (yc at' : FVec Ideal S8x8192x512 .bf16) (w : FVec Ideal S1024x1024 .f32)
    (g : FVec Ideal S1024 .f32) (wg wu : FVec Ideal S1024x2816 .f32) (wd : FVec Ideal S2816x1024 .f32) (i : S65536x1024.Idx) :
    shapeCast S65536x1024 (FFN (MIX x yc at' w) (NORM (MIX x yc at' w) g) wg wu wd) shapeCasts_S8x8192x1024_S65536x1024 i
      = Cert.Kernel2Ideal.Dense.ROW x yc at' w g wg wu wd
        ⟨(i 0).val / 8192, by have := (i 0).isLt; simp at this; omega⟩ ⟨(i 0).val % 8192, by omega⟩ (i 1) := by
  pointwise
  exact row_apply _ _ _ _ _ _ _ _ _ _ _

end Cert.Reference2Ideal.Dense

namespace Cert.Kernel2Ideal.Dense

open Idealize.ShloMosaic Idealize.ShloMosaic.TcCoe Idealize.SL.Sem
attribute [local instance] Cert.Kernel2Ideal.Gen.facts Cert.Reference2Ideal.Gen.facts

/-- The dense kernel's result is the reference's, as extended reals. -/
theorem algebraic : Cert.algebraic_Kernel2Ideal_Reference2Ideal := by
  pair_intro
  · run_from Cert.Kernel2Ideal.Gen.run_main m g
  · hlo_run
    rw [final m c]
    obtain ⟨-, h1, h2, -⟩ := hagree c
    rw [← h1, ← h2]
    funext i
    exact Cert.Reference2Ideal.Dense.ref_apply _ _ _ _ _ _ _ _ i

end Cert.Kernel2Ideal.Dense

end
-- ==== Proof.Moe.Chk.lean ====
/-
  The side condition of the expert loop: whatever word the token count reads as, the counted loop and the empty loop
  behind it are loops of the dialect; and, for a count of at most 1024 tokens, how many trips the counted loop makes.
-/
module

public import proofs.«01_k».proof.Proof.Gen.KernelIdeal.Skeleton
public import Idealize.ShloMosaic.Lib.LoopRemainder

@[expose] public section

namespace Cert.KernelIdeal.Moe

open Idealize.ShloMosaic Cert.KernelIdeal Cert.KernelIdeal.Gen

/-- A loop from zero by one, up to any word, never leaves the range of its induction variable. -/
theorem ok_from_zero (u : BitVec 32) : Scf.OK 0#32 u 1#32 := by
  refine ⟨by decide, ?_⟩
  have h1 : (1#32 : BitVec 32).toInt = 1 := by decide
  have h0 : (0#32 : BitVec 32).toInt = 0 := by decide
  have hu : u.toInt < 2 ^ 31 := by have := BitVec.toInt_lt (x := u); simpa using this
  have ht : Scf.trips 0#32 u 1#32 = u.toInt.toNat := by
    unfold Scf.trips; rw [h1, h0]; omega
  rw [ht, h1, h0]
  show 0 + (u.toInt.toNat : ℤ) * 1 < 2 ^ 31
  omega

/-- The side condition holds of every word. -/
theorem chk (v : BitVec 32) : k0_chk1 v :=
  ⟨ok_from_zero _, Scf.rem_ok _ _⟩

/-- The number of sub-blocks of 288 slots that a count of tokens needs. -/
theorem trips_eq : ∀ n : Fin 1025, (k0_t1_loop (BitVec.ofNat 32 n.val)).trips = (n.val + 287) / 288 := by
  decide +kernel

end Cert.KernelIdeal.Moe
-- ==== Proof.Moe.Whole.lean ====
/-
  Loads and stores of a whole block, at this kernel's block shapes: a load reads what the block reads, and after a store
  the block reads the payload.
-/
module

public import proofs.«01_k».proof.Proof.Gen.KernelIdeal.Skeleton
public import Idealize.ShloMosaic.Lib.VecWindow

@[expose] public section

set_option maxRecDepth 16384

noncomputable section

namespace Cert.KernelIdeal.Moe

open Idealize.ShloMosaic Cert.KernelIdeal Cert.KernelIdeal.Gen

variable {F : FTy → Type} {κ : Kind} {sp : Space} {e : EltTy}

theorem load_1024x1024 (v : View sig κ sp S1024x1024 e) (f : v.ty.Contents (Elt F)) (inb) :
    v.readAt (Elt F) (Rect.unit (s := S1024x1024) ![0, 0] ![1024, 1024] inb).toLoadRect f = v.read (Elt F) f :=
  View.readAt_full v f inb

theorem store_1024x1024 (v : View sig κ sp S1024x1024 e) (f : v.ty.Contents (Elt F)) (inb) (w : S1024x1024.Idx → Elt F e) (L) :
    v.read (Elt F) (v.writes (Elt F) f (⟨Rect.unit (s := S1024x1024) ![0, 0] ![1024, 1024] inb, w⟩ :: L)) = w :=
  View.read_writes_full v f inb w L

theorem load_1024x512 (v : View sig κ sp S1024x512 e) (f : v.ty.Contents (Elt F)) (inb) :
    v.readAt (Elt F) (Rect.unit (s := S1024x512) ![0, 0] ![1024, 512] inb).toLoadRect f = v.read (Elt F) f :=
  View.readAt_full v f inb

theorem store_1024x512 (v : View sig κ sp S1024x512 e) (f : v.ty.Contents (Elt F)) (inb) (w : S1024x512.Idx → Elt F e) (L) :
    v.read (Elt F) (v.writes (Elt F) f (⟨Rect.unit (s := S1024x512) ![0, 0] ![1024, 512] inb, w⟩ :: L)) = w :=
  View.read_writes_full v f inb w L

theorem load_512x1024 (v : View sig κ sp S512x1024 e) (f : v.ty.Contents (Elt F)) (inb) :
    v.readAt (Elt F) (Rect.unit (s := S512x1024) ![0, 0] ![512, 1024] inb).toLoadRect f = v.read (Elt F) f :=
  View.readAt_full v f inb

theorem store_512x1024 (v : View sig κ sp S512x1024 e) (f : v.ty.Contents (Elt F)) (inb) (w : S512x1024.Idx → Elt F e) (L) :
    v.read (Elt F) (v.writes (Elt F) f (⟨Rect.unit (s := S512x1024) ![0, 0] ![512, 1024] inb, w⟩ :: L)) = w :=
  View.read_writes_full v f inb w L

theorem load_1x1024 (v : View sig κ sp S1x1024 e) (f : v.ty.Contents (Elt F)) (inb) :
    v.readAt (Elt F) (Rect.unit (s := S1x1024) ![0, 0] ![1, 1024] inb).toLoadRect f = v.read (Elt F) f :=
  View.readAt_full v f inb

theorem store_1x1024 (v : View sig κ sp S1x1024 e) (f : v.ty.Contents (Elt F)) (inb) (w : S1x1024.Idx → Elt F e) (L) :
    v.read (Elt F) (v.writes (Elt F) f (⟨Rect.unit (s := S1x1024) ![0, 0] ![1, 1024] inb, w⟩ :: L)) = w :=
  View.read_writes_full v f inb w L

theorem load_1024x128 (v : View sig κ sp S1024x128 e) (f : v.ty.Contents (Elt F)) (inb) :
    v.readAt (Elt F) (Rect.unit (s := S1024x128) ![0, 0] ![1024, 128] inb).toLoadRect f = v.read (Elt F) f :=
  View.readAt_full v f inb

theorem store_1024x128 (v : View sig κ sp S1024x128 e) (f : v.ty.Contents (Elt F)) (inb) (w : S1024x128.Idx → Elt F e) (L) :
    v.read (Elt F) (v.writes (Elt F) f (⟨Rect.unit (s := S1024x128) ![0, 0] ![1024, 128] inb, w⟩ :: L)) = w :=
  View.read_writes_full v f inb w L

theorem load_1x1024x1408 (v : View sig κ sp S1x1024x1408 e) (f : v.ty.Contents (Elt F)) (inb) :
    v.readAt (Elt F) (Rect.unit (s := S1x1024x1408) ![0, 0, 0] ![1, 1024, 1408] inb).toLoadRect f = v.read (Elt F) f :=
  View.readAt_full v f inb

theorem store_1x1024x1408 (v : View sig κ sp S1x1024x1408 e) (f : v.ty.Contents (Elt F)) (inb) (w : S1x1024x1408.Idx → Elt F e) (L) :
    v.read (Elt F) (v.writes (Elt F) f (⟨Rect.unit (s := S1x1024x1408) ![0, 0, 0] ![1, 1024, 1408] inb, w⟩ :: L)) = w :=
  View.read_writes_full v f inb w L

theorem load_1x1408x1024 (v : View sig κ sp S1x1408x1024 e) (f : v.ty.Contents (Elt F)) (inb) :
    v.readAt (Elt F) (Rect.unit (s := S1x1408x1024) ![0, 0, 0] ![1, 1408, 1024] inb).toLoadRect f = v.read (Elt F) f :=
  View.readAt_full v f inb

theorem store_1x1408x1024 (v : View sig κ sp S1x1408x1024 e) (f : v.ty.Contents (Elt F)) (inb) (w : S1x1408x1024.Idx → Elt F e) (L) :
    v.read (Elt F) (v.writes (Elt F) f (⟨Rect.unit (s := S1x1408x1024) ![0, 0, 0] ![1, 1408, 1024] inb, w⟩ :: L)) = w :=
  View.read_writes_full v f inb w L

theorem load_8x128 (v : View sig κ sp S8x128 e) (f : v.ty.Contents (Elt F)) (inb) :
    v.readAt (Elt F) (Rect.unit (s := S8x128) ![0, 0] ![8, 128] inb).toLoadRect f = v.read (Elt F) f :=
  View.readAt_full v f inb

theorem store_8x128 (v : View sig κ sp S8x128 e) (f : v.ty.Contents (Elt F)) (inb) (w : S8x128.Idx → Elt F e) (L) :
    v.read (Elt F) (v.writes (Elt F) f (⟨Rect.unit (s := S8x128) ![0, 0] ![8, 128] inb, w⟩ :: L)) = w :=
  View.read_writes_full v f inb w L

end Cert.KernelIdeal.Moe

end
-- ==== Proof.Moe.Loop.lean ====
/-
  The expert loop over its sub-blocks of 288 slots, as a pure recursion over the accumulator: before trip `k` the
  accumulator holds what the trips before `k` have added, and everything the loop reads is unchanged.
-/
module

public import proofs.«01_k».proof.Proof.Gen.KernelIdeal.Loops
public import proofs.«01_k».proof.Proof.Moe.Chk
public import proofs.«01_k».proof.Proof.Moe.Whole
public import Idealize.ShloMosaic.Lib.WholeRead
public import Idealize.ShloMosaic.Lib.Pipeline.Frame
public import Idealize.ShloMosaic.Lib.Tactic.RunNames

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- One trip: the sub-block's gathered tokens go through the expert and back, gated, onto the accumulator. -/
def accStep (v10 : FVec F S1024x1 .f32) (v13 : FVec F S1x1024 .f32) (v22 : BitVec 32) (h : Vec F S1024x1024 .bf16)
    (wg wu : Vec F S1x1024x1408 .bf16) (wd : Vec F S1x1408x1024 .bf16) (k : ℕ) (acc : Vec F S1024x1024 .f32) :
    Vec F S1024x1024 .f32 :=
  if hk : k < (k0_t1_loop v22).trips then
    k0_pay2 v10 acc (k0_pay104 v13 v22 (k0_pay1 (F := F)) 0#32 1#32 ⟨k, hk⟩ h wg wu wd)
  else acc

/-- The accumulator before trip `k`. -/
def accAt (v10 : FVec F S1024x1 .f32) (v13 : FVec F S1x1024 .f32) (v22 : BitVec 32) (h : Vec F S1024x1024 .bf16)
    (wg wu : Vec F S1x1024x1408 .bf16) (wd : Vec F S1x1408x1024 .bf16) (acc : Vec F S1024x1024 .f32) :
    ℕ → Vec F S1024x1024 .f32
  | 0 => acc
  | k + 1 => accStep v10 v13 v22 h wg wu wd k (accAt v10 v13 v22 h wg wu wd acc k)

set_option warn.classDefReducibility false in
/-- The loop's invariant: the read blocks at their contents, the accumulator reading as the recursion says. -/
@[sl_loop] def expertLoop (𝒱 : Variants) (c : Dev nD) (bd : Option 𝒱.V) (E : Set ℕ) (i : grid0.Coords)
    (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x1024 .bf16) (harg10 : arg10.IsWhole) (arg11 : Memref sig .tc .vmem S1x1024x1408 .bf16) (harg11 : arg11.IsWhole) (arg12 : Memref sig .tc .vmem S1x1024x1408 .bf16) (harg12 : arg12.IsWhole) (arg13 : Memref sig .tc .vmem S1x1408x1024 .bf16) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S8x1x1024 .f32) (harg18 : arg18.IsWhole) (arg19 : Memref sig .tc .vmem S8x128 .f32) (harg19 : arg19.IsWhole) (arg20 : Memref sig .tc .vmem S1024x1024 .f32) (harg20 : arg20.IsWhole)
    (v10 : FVec F S1024x1 .f32) (v13 : FVec F S1x1024 .f32) (v22 : BitVec 32) (k0_hw1 : k0_chk1 v22)
    (X11 : BufTy.Contents (Elt F) arg11.view.ty) (X12 : BufTy.Contents (Elt F) arg12.view.ty) (X13 : BufTy.Contents (Elt F) arg13.view.ty)
    (X15 : BufTy.Contents (Elt F) arg15.view.ty) (acc₀ : Vec F S1024x1024 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v10 v13 v22 k0_hw1 where
  inv k _ := iprop((arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg15.view.loc (c : Thread nD τ) ↦[arg15.view.set]{fullShare} X15)
    ∗ (∃ f, (arg20.view.loc (c : Thread nD τ) ↦[arg20.view.set]{fullShare} f)
      ∗ ⌜f = harg20.unread (accAt v10 v13 v22 (arg15.view.read (Elt F) X15) (arg11.view.read (Elt F) X11)
          (arg12.view.read (Elt F) X12) (arg13.view.read (Elt F) X13) acc₀ k)⌝))
  step k acc := by
    iintro ⟨H11, H12, H13, H15, ⟨%f, H20, %hf⟩⟩
    subst hf
    unfold k0_t1_body
    simp only [k0_part13_eq_skeleton]
    sl_exec
    sl_step
    isplitl [H11]; · iexact H11
    isplitl [H12]; · iexact H12
    isplitl [H13]; · iexact H13
    isplitl [H15]; · iexact H15
    iexists _; isplitl [H20]; · iexact H20
    ipureintro
    apply harg20.eq_unread
    rw [View.read_writes_full]
    show _ = accStep v10 v13 v22 _ _ _ _ k.val _
    unfold accStep
    rw [dif_pos k.isLt]
    sl_unfold_run_values
    simp only [load_1024x1024, load_1x1024x1408, load_1x1408x1024, Memref.IsWhole.read_unread]

end Cert.KernelIdeal.Moe

end
-- ==== Proof.Moe.State.lean ====
/-
  One grid point of the expert kernel as pure functions of what its scratch holds: the gate column, the rank row and the
  token count of the point's expert, and the accumulator after the expert's sub-blocks.
-/
module

public import proofs.«01_k».proof.Proof.Moe.Loop
public import proofs.«01_k».proof.Proof.Gen.KernelIdeal.Frame

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The point is the first of its token tile: its expert is the first. -/
abbrev first (i : grid0.Coords) : Prop :=
  (Scalar.cmpi .ne (Scalar.extui (Scalar.cmpi .eq (BitVec.ofNat 32 (i 1).val) 0#32)) 0#32) = 1#1

/-- The point is the last of its token tile: its expert is the last. -/
abbrev last (i : grid0.Coords) : Prop := k0_cond2 i = 1#1

/-- The rows of ranks, the point's expert's among them: what the load at the expert reads. -/
def rankBlk (i : grid0.Coords) (rt : Vec F S8x1x1024 .f32) : Vec F S1x1x1024 .f32 := fun y =>
  rt ((Rect.unit (s := S8x1x1024) (k0_off1 i) ![1, 1, 1024] (k0_off1_inb i)).toLoadRect.idx y)

theorem rankBlk_read {κ : Kind} {sp : Space} (i : grid0.Coords) (m : Memref sig κ sp S8x1x1024 .f32) (hm : m.IsWhole)
    (rt : Vec F S8x1x1024 .f32) (inb) :
    View.readAt (Elt F) m.view (Rect.unit (s := S8x1x1024) (k0_off1 i) ![1, 1, 1024] inb).toLoadRect (hm.unread rt) = rankBlk i rt :=
  funext fun y => hm.readAt_unread rt _ y

/-- How many of the tile's tokens the point's expert takes, as the word the loop's bound is computed from. -/
def nTok (i : grid0.Coords) (cnt : Vec F S8x128 .f32) : BitVec 32 := Scalar.fptosi 32 (k0_pay109 i cnt)

/-- The accumulator after the point: the expert's sub-blocks on top of what it held. -/
def accNext (i : grid0.Coords) (gate : Vec F S1024x128 .f32) (rt : Vec F S8x1x1024 .f32) (cnt : Vec F S8x128 .f32)
    (h : Vec F S1024x1024 .bf16) (wg wu : Vec F S1x1024x1408 .bf16) (wd : Vec F S1x1408x1024 .bf16)
    (acc : Vec F S1024x1024 .f32) : Vec F S1024x1024 .f32 :=
  accAt (k0_pay107 i gate) (k0_pay108 (rankBlk i rt)) (nTok i cnt) h wg wu wd acc (k0_t1_loop (nTok i cnt)).trips

end Cert.KernelIdeal.Moe

end
-- ==== Proof.Moe.Rank.lean ====
/-
  A tile's ranks, laid out with the expert's lane leading, from the 64 pieces the kernel writes.
-/
module

public import proofs.«01_k».proof.Proof.Moe.State
public import Idealize.ShloMosaic.Lib.Pipeline.ValueKit

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A tile's ranks with the expert's lane leading. -/
def rankRows (R : FVec F S1024x128 .f32) : Vec F S8x1x1024 .f32 := fun y =>
  R (ix2 ⟨(y 2).val, (y 2).isLt⟩ ⟨(y 0).val, Nat.lt_trans (y 0).isLt (by decide)⟩)

/-- One expert's row of one group of 128 tokens, out of a tile's ranks. -/
def rankRow (R : FVec F S1024x128 .f32) (e o : ℕ) (h1 : S1024x128.Slices ![o, 0] S128x128) (h2 : S128x128.Slices ![e, 0] S1x128) :
    FVec F S1x1x128 .f32 :=
  shapeCast S1x1x128 (extractStridedSlice S1x128 ![e, 0]
    (transpose S128x128 [1, 0] (extractStridedSlice S128x128 ![o, 0] R h1) transposes_S128x128_p1_0_S128x128) h2) shapeCasts_S1x128_S1x1x128

theorem rankRow_eq (R : FVec F S1024x128 .f32) (e o : ℕ) (he : e < 8) (ho : o + 128 ≤ 1024) (h1) (h2) (inb) (x : S1x1x128.Idx) :
    rankRow R e o h1 h2 x = rankRows R ((Rect.unit (s := S8x1x1024) ![e, 0, o] ![1, 1, 128] inb).emb x) := by
  have hx0 : (x 0).val = 0 := Nat.lt_one_iff.1 (x 0).isLt
  have hx1 : (x 1).val = 0 := Nat.lt_one_iff.1 (x 1).isLt
  have hx2 : (x 2).val < 128 := (x 2).isLt
  unfold rankRow
  refine (shapeCast_apply _ _ x (ix2 0 ⟨(x 2).val, hx2⟩) ?_).trans ((extractStridedSlice_apply _ _ _ _ (ix2 ⟨e, by omega⟩ ⟨(x 2).val, hx2⟩) ?_).trans
    ((transpose_apply _ _ _ _ (ix2 ⟨(x 2).val, hx2⟩ ⟨e, by omega⟩) ?_).trans
      ((extractStridedSlice_apply _ _ _ _ (ix2 ⟨o + (x 2).val, by omega⟩ ⟨e, by omega⟩) ?_).trans ?_)))
  · rw [Shape.rowMajor_val_two, Shape.rowMajor_val_three]
    show ((0 : ℕ) * 128 + (x 2).val) = ((x 0).val * 1 + (x 1).val) * 128 + (x 2).val
    omega
  · intro a; match a with | 0 => rfl | 1 => simp
  · intro a; match a with | 0 => rfl | 1 => rfl
  · intro a; match a with | 0 => rfl | 1 => simp
  · unfold rankRows
    have e0 : ((Rect.unit (s := S8x1x1024) ![e, 0, o] ![1, 1, 128] inb).emb x 0).val = e := by
      rw [Rect.emb_apply]; show e + 1 * (x 0).val = e; omega
    have e2 : ((Rect.unit (s := S8x1x1024) ![e, 0, o] ![1, 1, 128] inb).emb x 2).val = o + (x 2).val := by
      rw [Rect.emb_apply]; show o + 1 * (x 2).val = _; omega
    simp only [e0, e2]

/-- After writes of pieces that all agree with `G`, an index some piece covers reads `G`. -/
theorem read_writes_agree {s : Shape} {e : EltTy} {κ : Kind} {sp : Space} (v : View sig κ sp s e) (f : v.ty.Contents (Elt F))
    (G : s.Idx → Elt F e) (y : s.Idx) :
    ∀ L : List (View.Piece (Elt F) s e), (∀ p ∈ L, ∀ x, p.2 x = G (p.1.emb x)) → (∃ p ∈ L, y ∈ p.1.set) →
      v.read (Elt F) (v.writes (Elt F) f L) y = G y
  | [], _, h => by obtain ⟨_, hm, _⟩ := h; exact absurd hm List.not_mem_nil
  | p :: L, hG, h => by
    by_cases hy : y ∈ p.1.set
    · obtain ⟨x, rfl⟩ : ∃ x, p.1.emb x = y := p.1.exists_idx_of_mem hy
      obtain ⟨r, w⟩ := p
      rw [View.read_writes_cons_emb]
      exact hG _ List.mem_cons_self x
    · have hL : ∃ q ∈ L, y ∈ q.1.set := by
        obtain ⟨q, hm, hq⟩ := h
        rcases List.mem_cons.mp hm with rfl | hm
        · exact absurd hq hy
        · exact ⟨q, hm, hq⟩
      have hy' : y ∉ Finset.univ.map p.1.emb := by rwa [Rect.map_emb_univ]
      rw [View.writes_cons, View.read_slice_write_of_not_mem p.1 _ _ _ hy']
      exact read_writes_agree v f G y L (fun q hq => hG q (List.mem_cons_of_mem _ hq)) hL

end Cert.KernelIdeal.Moe

end
-- ==== Proof.Moe.Init.lean ====
/-
  The first point of a token tile: what the scratch holds after the routing has been worked out.
-/
module

public import proofs.«01_k».proof.Proof.Moe.State
public import proofs.«01_k».proof.Proof.Moe.Rank
public import Idealize.ShloMosaic.Lib.Pipeline.ValueKit

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The lane numbers of a tile's rows. -/
def lanes : IVec S1024x128 32 := iota .tc S1024x128 32 [1] iota_S1024x128_d1_w32

section
variable (x0 : Vec F S1024x1024 .f32) (x1 x2 : Vec F S1024x512 .bf16) (x3 x4 : Vec F S512x1024 .bf16) (x5 : Vec F S1x1024 .f32)
  (x6 x7 : Vec F S1024x128 .bf16) (x8 : Vec F S1024x1024 .bf16)

/-- The residual rows, where the accumulator starts. -/
def initAcc : Vec F S1024x1024 .f32 := k0_pay103 (k0_pay4 x0 x1 x3 x2 x4)

/-- The normed rows. -/
def initH : Vec F S1024x1024 .bf16 := k0_pay8 x0 x1 x3 x2 x4 x5

/-- The lane of the first choice, per token. -/
def choice1 : IVec S1024x1 32 := k0_pay12 lanes (k0_pay6 x0 x1 x3 x2 x4 x5) (k0_pay7 x0 x1 x3 x2 x4 x5) (k0_pay9 x6)
  (constant S1024x128 .f32 0x00000000#32) x7

/-- The lane of the second choice, per token. -/
def choice2 : IVec S1024x1 32 := k0_pay15 lanes (k0_pay6 x0 x1 x3 x2 x4 x5) (k0_pay7 x0 x1 x3 x2 x4 x5) (k0_pay9 x6)
  (constant S1024x128 .f32 0x00000000#32) x7

/-- The gates, per token and lane. -/
def initGate : Vec F S1024x128 .f32 :=
  let hi := k0_pay6 x0 x1 x3 x2 x4 x5
  let lo := k0_pay7 x0 x1 x3 x2 x4 x5
  let r := k0_pay9 x6
  let z : FVec F S1024x128 .f32 := constant S1024x128 .f32 0x00000000#32
  k0_pay20 lanes (k0_pay14 lanes hi lo r z x7) (k0_pay16 lanes hi lo r z x7) (k0_pay17 lanes hi lo r z x7)
    (k0_pay18 lanes hi lo r z x7) (k0_pay19 lanes hi lo r z x7)

/-- The ranks, per token and lane. -/
def initRank : FVec F S1024x128 .f32 :=
  k0_pay22 lanes (choice1 x0 x1 x2 x3 x4 x5 x6 x7) (choice2 x0 x1 x2 x3 x4 x5 x6 x7) x8

/-- The counts, per lane, on each of eight rows. -/
def initCnt : Vec F S8x128 .f32 :=
  k0_pay102 (k0_pay21 (F := F) lanes (choice1 x0 x1 x2 x3 x4 x5 x6 x7) (choice2 x0 x1 x2 x3 x4 x5 x6 x7))

end

set_option maxHeartbeats 4000000 in
/-- What the first point of a tile does before its expert's work: from the inputs, the normed rows, the gates, the ranks and
    the counts into the scratch, and the residual rows returned. -/
theorem init_run (c : Dev nD) (i : grid0.Coords) (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x1024 .bf16) (harg10 : arg10.IsWhole) (arg11 : Memref sig .tc .vmem S1x1024x1408 .bf16) (harg11 : arg11.IsWhole) (arg12 : Memref sig .tc .vmem S1x1024x1408 .bf16) (harg12 : arg12.IsWhole) (arg13 : Memref sig .tc .vmem S1x1408x1024 .bf16) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S8x1x1024 .f32) (harg18 : arg18.IsWhole) (arg19 : Memref sig .tc .vmem S8x128 .f32) (harg19 : arg19.IsWhole) (arg20 : Memref sig .tc .vmem S1024x1024 .f32) (harg20 : arg20.IsWhole)
    (x0 : Vec F S1024x1024 .f32) (x1 x2 : Vec F S1024x512 .bf16) (x3 x4 : Vec F S512x1024 .bf16) (x5 : Vec F S1x1024 .f32)
    (x6 x7 : Vec F S1024x128 .bf16) (x8 : Vec F S1024x1024 .bf16) (E : Set ℕ) (K : FVec F S1024x1024 .f32 → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg15 fullShare (initH x0 x1 x2 x3 x4 x5) ∗ owns (c : Thread nD τ) arg16 fullShare (initGate x0 x1 x2 x3 x4 x5 x6 x7) ∗ (∃ d, owns (c : Thread nD τ) arg17 fullShare d) ∗ owns (c : Thread nD τ) arg18 fullShare (rankRows (initRank x0 x1 x2 x3 x4 x5 x6 x7 x8)) ∗ owns (c : Thread nD τ) arg19 fullShare (initCnt x0 x1 x2 x3 x4 x5 x6 x7) ∗ (∃ d, owns (c : Thread nD τ) arg20 fullShare d)) -∗ K (initAcc x0 x1 x2 x3 x4)))
    ⊢ wp frame (wpE (defs₀ (F := F)) Variants.none c none) E (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 lanes) K := by
  simp only [k0_part12_eq_skeleton]; unfold k0_part12_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec
  sl_step
  generalize hz : k0_pay103 _ = z
  obtain rfl : initAcc x0 x1 x2 x3 x4 = z := by
    rw [← hz]
    sl_unfold_run_values
    simp only [load_1024x1024, load_1024x512, load_512x1024, load_1x1024, load_1024x128, load_8x128, Memref.IsWhole.read_unread]
    exact rfl
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H15]
  · iexists _; isplitr; swap; · iexact H15
    ipureintro
    rw [store_1024x1024]
    sl_unfold_run_values
    simp only [load_1024x1024, load_1024x512, load_512x1024, load_1x1024, load_1024x128, load_8x128, Memref.IsWhole.read_unread]
    rfl
  isplitl [H16]
  · iexists _; isplitr; swap; · iexact H16
    ipureintro
    rw [store_1024x128]
    sl_unfold_run_values
    simp only [load_1024x1024, load_1024x512, load_512x1024, load_1x1024, load_1024x128, load_8x128, Memref.IsWhole.read_unread]
    rfl
  isplitl [H17]
  · iexists _, _; isplitr; swap; · iexact H17
    ipureintro; rfl
  isplitl [H18]
  · iexists _; isplitr; swap; · iexact H18
    ipureintro
    funext y
    refine read_writes_agree _ _ _ y _ ?_ (View.cover_of_tiledL _ ![1, 1, 128] (by sl_kernel_rfl) y)
    sl_unfold_run_values
    simp only [load_1024x1024, load_1024x512, load_512x1024, load_1x1024, load_1024x128, load_8x128, Memref.IsWhole.read_unread]
    refine List.forall_mem_cons.2 ⟨fun x => rankRow_eq (initRank x0 x1 x2 x3 x4 x5 x6 x7 x8) 7 896 (by decide) (by decide) slices_S1024x128_o896_0_S128x128 slices_S128x128_o7_0_S1x128 inb_S8x1x1024_S1x1x128_7_0_896 x, ?_⟩
    refine List.forall_mem_cons.2 ⟨fun x => rankRow_eq (initRank x0 x1 x2 x3 x4 x5 x6 x7 x8) 6 896 (by decide) (by decide) slices_S1024x128_o896_0_S128x128 slices_S128x128_o6_0_S1x128 inb_S8x1x1024_S1x1x128_6_0_896 x, ?_⟩
    refine List.forall_mem_cons.2 ⟨fun x => rankRow_eq (initRank x0 x1 x2 x3 x4 x5 x6 x7 x8) 5 896 (by decide) (by decide) slices_S1024x128_o896_0_S128x128 slices_S128x128_o5_0_S1x128 inb_S8x1x1024_S1x1x128_5_0_896 x, ?_⟩
    refine List.forall_mem_cons.2 ⟨fun x => rankRow_eq (initRank x0 x1 x2 x3 x4 x5 x6 x7 x8) 4 896 (by decide) (by decide) slices_S1024x128_o896_0_S128x128 slices_S128x128_o4_0_S1x128 inb_S8x1x1024_S1x1x128_4_0_896 x, ?_⟩
    refine List.forall_mem_cons.2 ⟨fun x => rankRow_eq (initRank x0 x1 x2 x3 x4 x5 x6 x7 x8) 3 896 (by decide) (by decide) slices_S1024x128_o896_0_S128x128 slices_S128x128_o3_0_S1x128 inb_S8x1x1024_S1x1x128_3_0_896 x, ?_⟩
    refine List.forall_mem_cons.2 ⟨fun x => rankRow_eq (initRank x0 x1 x2 x3 x4 x5 x6 x7 x8) 2 896 (by decide) (by decide) slices_S1024x128_o896_0_S128x128 slices_S128x128_o2_0_S1x128 inb_S8x1x1024_S1x1x128_2_0_896 x, ?_⟩
    refine List.forall_mem_cons.2 ⟨fun x => rankRow_eq (initRank x0 x1 x2 x3 x4 x5 x6 x7 x8) 1 896 (by decide) (by decide) slices_S1024x128_o896_0_S128x128 slices_S128x128_o1_0_S1x128 inb_S8x1x1024_S1x1x128_1_0_896 x, ?_⟩
    refine List.forall_mem_cons.2 ⟨fun x => rankRow_eq (initRank x0 x1 x2 x3 x4 x5 x6 x7 x8) 0 896 (by decide) (by decide) slices_S1024x128_o896_0_S128x128 slices_S128x128_o0_0_S1x128 inb_S8x1x1024_S1x1x128_0_0_896 x, ?_⟩
    refine List.forall_mem_cons.2 ⟨fun x => rankRow_eq (initRank x0 x1 x2 x3 x4 x5 x6 x7 x8) 7 768 (by decide) (by decide) slices_S1024x128_o768_0_S128x128 slices_S128x128_o7_0_S1x128 inb_S8x1x1024_S1x1x128_7_0_768 x, ?_⟩
    refine List.forall_mem_cons.2 ⟨fun x => rankRow_eq (initRank x0 x1 x2 x3 x4 x5 x6 x7 x8) 6 768 (by decide) (by decide) slices_S1024x128_o768_0_S128x128 slices_S128x128_o6_0_S1x128 inb_S8x1x1024_S1x1x128_6_0_768 x, ?_⟩
    refine List.forall_mem_cons.2 ⟨fun x => rankRow_eq (initRank x0 x1 x2 x3 x4 x5 x6 x7 x8) 5 768 (by decide) (by decide) slices_S1024x128_o768_0_S128x128 slices_S128x128_o5_0_S1x128 inb_S8x1x1024_S1x1x128_5_0_768 x, ?_⟩
    refine List.forall_mem_cons.2 ⟨fun x => rankRow_eq (initRank x0 x1 x2 x3 x4 x5 x6 x7 x8) 4 768 (by decide) (by decide) slices_S1024x128_o768_0_S128x128 slices_S128x128_o4_0_S1x128 inb_S8x1x1024_S1x1x128_4_0_768 x, ?_⟩
    refine List.forall_mem_cons.2 ⟨fun x => rankRow_eq (initRank x0 x1 x2 x3 x4 x5 x6 x7 x8) 3 768 (by decide) (by decide) slices_S1024x128_o768_0_S128x128 slices_S128x128_o3_0_S1x128 inb_S8x1x1024_S1x1x128_3_0_768 x, ?_⟩
    refine List.forall_mem_cons.2 ⟨fun x => rankRow_eq (initRank x0 x1 x2 x3 x4 x5 x6 x7 x8) 2 768 (by decide) (by decide) slices_S1024x128_o768_0_S128x128 slices_S128x128_o2_0_S1x128 inb_S8x1x1024_S1x1x128_2_0_768 x, ?_⟩
    refine List.forall_mem_cons.2 ⟨fun x => rankRow_eq (initRank x0 x1 x2 x3 x4 x5 x6 x7 x8) 1 768 (by decide) (by decide) slices_S1024x128_o768_0_S128x128 slices_S128x128_o1_0_S1x128 inb_S8x1x1024_S1x1x128_1_0_768 x, ?_⟩
    refine List.forall_mem_cons.2 ⟨fun x => rankRow_eq (initRank x0 x1 x2 x3 x4 x5 x6 x7 x8) 0 768 (by decide) (by decide) slices_S1024x128_o768_0_S128x128 slices_S128x128_o0_0_S1x128 inb_S8x1x1024_S1x1x128_0_0_768 x, ?_⟩
    refine List.forall_mem_cons.2 ⟨fun x => rankRow_eq (initRank x0 x1 x2 x3 x4 x5 x6 x7 x8) 7 640 (by decide) (by decide) slices_S1024x128_o640_0_S128x128 slices_S128x128_o7_0_S1x128 inb_S8x1x1024_S1x1x128_7_0_640 x, ?_⟩
    refine List.forall_mem_cons.2 ⟨fun x => rankRow_eq (initRank x0 x1 x2 x3 x4 x5 x6 x7 x8) 6 640 (by decide) (by decide) slices_S1024x128_o640_0_S128x128 slices_S128x128_o6_0_S1x128 inb_S8x1x1024_S1x1x128_6_0_640 x, ?_⟩
    refine List.forall_mem_cons.2 ⟨fun x => rankRow_eq (initRank x0 x1 x2 x3 x4 x5 x6 x7 x8) 5 640 (by decide) (by decide) slices_S1024x128_o640_0_S128x128 slices_S128x128_o5_0_S1x128 inb_S8x1x1024_S1x1x128_5_0_640 x, ?_⟩
    refine List.forall_mem_cons.2 ⟨fun x => rankRow_eq (initRank x0 x1 x2 x3 x4 x5 x6 x7 x8) 4 640 (by decide) (by decide) slices_S1024x128_o640_0_S128x128 slices_S128x128_o4_0_S1x128 inb_S8x1x1024_S1x1x128_4_0_640 x, ?_⟩
    refine List.forall_mem_cons.2 ⟨fun x => rankRow_eq (initRank x0 x1 x2 x3 x4 x5 x6 x7 x8) 3 640 (by decide) (by decide) slices_S1024x128_o640_0_S128x128 slices_S128x128_o3_0_S1x128 inb_S8x1x1024_S1x1x128_3_0_640 x, ?_⟩
    refine List.forall_mem_cons.2 ⟨fun x => rankRow_eq (initRank x0 x1 x2 x3 x4 x5 x6 x7 x8) 2 640 (by decide) (by decide) slices_S1024x128_o640_0_S128x128 slices_S128x128_o2_0_S1x128 inb_S8x1x1024_S1x1x128_2_0_640 x, ?_⟩
    refine List.forall_mem_cons.2 ⟨fun x => rankRow_eq (initRank x0 x1 x2 x3 x4 x5 x6 x7 x8) 1 640 (by decide) (by decide) slices_S1024x128_o640_0_S128x128 slices_S128x128_o1_0_S1x128 inb_S8x1x1024_S1x1x128_1_0_640 x, ?_⟩
    refine List.forall_mem_cons.2 ⟨fun x => rankRow_eq (initRank x0 x1 x2 x3 x4 x5 x6 x7 x8) 0 640 (by decide) (by decide) slices_S1024x128_o640_0_S128x128 slices_S128x128_o0_0_S1x128 inb_S8x1x1024_S1x1x128_0_0_640 x, ?_⟩
    refine List.forall_mem_cons.2 ⟨fun x => rankRow_eq (initRank x0 x1 x2 x3 x4 x5 x6 x7 x8) 7 512 (by decide) (by decide) slices_S1024x128_o512_0_S128x128 slices_S128x128_o7_0_S1x128 inb_S8x1x1024_S1x1x128_7_0_512 x, ?_⟩
    refine List.forall_mem_cons.2 ⟨fun x => rankRow_eq (initRank x0 x1 x2 x3 x4 x5 x6 x7 x8) 6 512 (by decide) (by decide) slices_S1024x128_o512_0_S128x128 slices_S128x128_o6_0_S1x128 inb_S8x1x1024_S1x1x128_6_0_512 x, ?_⟩
    refine List.forall_mem_cons.2 ⟨fun x => rankRow_eq (initRank x0 x1 x2 x3 x4 x5 x6 x7 x8) 5 512 (by decide) (by decide) slices_S1024x128_o512_0_S128x128 slices_S128x128_o5_0_S1x128 inb_S8x1x1024_S1x1x128_5_0_512 x, ?_⟩
    refine List.forall_mem_cons.2 ⟨fun x => rankRow_eq (initRank x0 x1 x2 x3 x4 x5 x6 x7 x8) 4 512 (by decide) (by decide) slices_S1024x128_o512_0_S128x128 slices_S128x128_o4_0_S1x128 inb_S8x1x1024_S1x1x128_4_0_512 x, ?_⟩
    refine List.forall_mem_cons.2 ⟨fun x => rankRow_eq (initRank x0 x1 x2 x3 x4 x5 x6 x7 x8) 3 512 (by decide) (by decide) slices_S1024x128_o512_0_S128x128 slices_S128x128_o3_0_S1x128 inb_S8x1x1024_S1x1x128_3_0_512 x, ?_⟩
    refine List.forall_mem_cons.2 ⟨fun x => rankRow_eq (initRank x0 x1 x2 x3 x4 x5 x6 x7 x8) 2 512 (by decide) (by decide) slices_S1024x128_o512_0_S128x128 slices_S128x128_o2_0_S1x128 inb_S8x1x1024_S1x1x128_2_0_512 x, ?_⟩
    refine List.forall_mem_cons.2 ⟨fun x => rankRow_eq (initRank x0 x1 x2 x3 x4 x5 x6 x7 x8) 1 512 (by decide) (by decide) slices_S1024x128_o512_0_S128x128 slices_S128x128_o1_0_S1x128 inb_S8x1x1024_S1x1x128_1_0_512 x, ?_⟩
    refine List.forall_mem_cons.2 ⟨fun x => rankRow_eq (initRank x0 x1 x2 x3 x4 x5 x6 x7 x8) 0 512 (by decide) (by decide) slices_S1024x128_o512_0_S128x128 slices_S128x128_o0_0_S1x128 inb_S8x1x1024_S1x1x128_0_0_512 x, ?_⟩
    refine List.forall_mem_cons.2 ⟨fun x => rankRow_eq (initRank x0 x1 x2 x3 x4 x5 x6 x7 x8) 7 384 (by decide) (by decide) slices_S1024x128_o384_0_S128x128 slices_S128x128_o7_0_S1x128 inb_S8x1x1024_S1x1x128_7_0_384 x, ?_⟩
    refine List.forall_mem_cons.2 ⟨fun x => rankRow_eq (initRank x0 x1 x2 x3 x4 x5 x6 x7 x8) 6 384 (by decide) (by decide) slices_S1024x128_o384_0_S128x128 slices_S128x128_o6_0_S1x128 inb_S8x1x1024_S1x1x128_6_0_384 x, ?_⟩
    refine List.forall_mem_cons.2 ⟨fun x => rankRow_eq (initRank x0 x1 x2 x3 x4 x5 x6 x7 x8) 5 384 (by decide) (by decide) slices_S1024x128_o384_0_S128x128 slices_S128x128_o5_0_S1x128 inb_S8x1x1024_S1x1x128_5_0_384 x, ?_⟩
    refine List.forall_mem_cons.2 ⟨fun x => rankRow_eq (initRank x0 x1 x2 x3 x4 x5 x6 x7 x8) 4 384 (by decide) (by decide) slices_S1024x128_o384_0_S128x128 slices_S128x128_o4_0_S1x128 inb_S8x1x1024_S1x1x128_4_0_384 x, ?_⟩
    refine List.forall_mem_cons.2 ⟨fun x => rankRow_eq (initRank x0 x1 x2 x3 x4 x5 x6 x7 x8) 3 384 (by decide) (by decide) slices_S1024x128_o384_0_S128x128 slices_S128x128_o3_0_S1x128 inb_S8x1x1024_S1x1x128_3_0_384 x, ?_⟩
    refine List.forall_mem_cons.2 ⟨fun x => rankRow_eq (initRank x0 x1 x2 x3 x4 x5 x6 x7 x8) 2 384 (by decide) (by decide) slices_S1024x128_o384_0_S128x128 slices_S128x128_o2_0_S1x128 inb_S8x1x1024_S1x1x128_2_0_384 x, ?_⟩
    refine List.forall_mem_cons.2 ⟨fun x => rankRow_eq (initRank x0 x1 x2 x3 x4 x5 x6 x7 x8) 1 384 (by decide) (by decide) slices_S1024x128_o384_0_S128x128 slices_S128x128_o1_0_S1x128 inb_S8x1x1024_S1x1x128_1_0_384 x, ?_⟩
    refine List.forall_mem_cons.2 ⟨fun x => rankRow_eq (initRank x0 x1 x2 x3 x4 x5 x6 x7 x8) 0 384 (by decide) (by decide) slices_S1024x128_o384_0_S128x128 slices_S128x128_o0_0_S1x128 inb_S8x1x1024_S1x1x128_0_0_384 x, ?_⟩
    refine List.forall_mem_cons.2 ⟨fun x => rankRow_eq (initRank x0 x1 x2 x3 x4 x5 x6 x7 x8) 7 256 (by decide) (by decide) slices_S1024x128_o256_0_S128x128 slices_S128x128_o7_0_S1x128 inb_S8x1x1024_S1x1x128_7_0_256 x, ?_⟩
    refine List.forall_mem_cons.2 ⟨fun x => rankRow_eq (initRank x0 x1 x2 x3 x4 x5 x6 x7 x8) 6 256 (by decide) (by decide) slices_S1024x128_o256_0_S128x128 slices_S128x128_o6_0_S1x128 inb_S8x1x1024_S1x1x128_6_0_256 x, ?_⟩
    refine List.forall_mem_cons.2 ⟨fun x => rankRow_eq (initRank x0 x1 x2 x3 x4 x5 x6 x7 x8) 5 256 (by decide) (by decide) slices_S1024x128_o256_0_S128x128 slices_S128x128_o5_0_S1x128 inb_S8x1x1024_S1x1x128_5_0_256 x, ?_⟩
    refine List.forall_mem_cons.2 ⟨fun x => rankRow_eq (initRank x0 x1 x2 x3 x4 x5 x6 x7 x8) 4 256 (by decide) (by decide) slices_S1024x128_o256_0_S128x128 slices_S128x128_o4_0_S1x128 inb_S8x1x1024_S1x1x128_4_0_256 x, ?_⟩
    refine List.forall_mem_cons.2 ⟨fun x => rankRow_eq (initRank x0 x1 x2 x3 x4 x5 x6 x7 x8) 3 256 (by decide) (by decide) slices_S1024x128_o256_0_S128x128 slices_S128x128_o3_0_S1x128 inb_S8x1x1024_S1x1x128_3_0_256 x, ?_⟩
    refine List.forall_mem_cons.2 ⟨fun x => rankRow_eq (initRank x0 x1 x2 x3 x4 x5 x6 x7 x8) 2 256 (by decide) (by decide) slices_S1024x128_o256_0_S128x128 slices_S128x128_o2_0_S1x128 inb_S8x1x1024_S1x1x128_2_0_256 x, ?_⟩
    refine List.forall_mem_cons.2 ⟨fun x => rankRow_eq (initRank x0 x1 x2 x3 x4 x5 x6 x7 x8) 1 256 (by decide) (by decide) slices_S1024x128_o256_0_S128x128 slices_S128x128_o1_0_S1x128 inb_S8x1x1024_S1x1x128_1_0_256 x, ?_⟩
    refine List.forall_mem_cons.2 ⟨fun x => rankRow_eq (initRank x0 x1 x2 x3 x4 x5 x6 x7 x8) 0 256 (by decide) (by decide) slices_S1024x128_o256_0_S128x128 slices_S128x128_o0_0_S1x128 inb_S8x1x1024_S1x1x128_0_0_256 x, ?_⟩
    refine List.forall_mem_cons.2 ⟨fun x => rankRow_eq (initRank x0 x1 x2 x3 x4 x5 x6 x7 x8) 7 128 (by decide) (by decide) slices_S1024x128_o128_0_S128x128 slices_S128x128_o7_0_S1x128 inb_S8x1x1024_S1x1x128_7_0_128 x, ?_⟩
    refine List.forall_mem_cons.2 ⟨fun x => rankRow_eq (initRank x0 x1 x2 x3 x4 x5 x6 x7 x8) 6 128 (by decide) (by decide) slices_S1024x128_o128_0_S128x128 slices_S128x128_o6_0_S1x128 inb_S8x1x1024_S1x1x128_6_0_128 x, ?_⟩
    refine List.forall_mem_cons.2 ⟨fun x => rankRow_eq (initRank x0 x1 x2 x3 x4 x5 x6 x7 x8) 5 128 (by decide) (by decide) slices_S1024x128_o128_0_S128x128 slices_S128x128_o5_0_S1x128 inb_S8x1x1024_S1x1x128_5_0_128 x, ?_⟩
    refine List.forall_mem_cons.2 ⟨fun x => rankRow_eq (initRank x0 x1 x2 x3 x4 x5 x6 x7 x8) 4 128 (by decide) (by decide) slices_S1024x128_o128_0_S128x128 slices_S128x128_o4_0_S1x128 inb_S8x1x1024_S1x1x128_4_0_128 x, ?_⟩
    refine List.forall_mem_cons.2 ⟨fun x => rankRow_eq (initRank x0 x1 x2 x3 x4 x5 x6 x7 x8) 3 128 (by decide) (by decide) slices_S1024x128_o128_0_S128x128 slices_S128x128_o3_0_S1x128 inb_S8x1x1024_S1x1x128_3_0_128 x, ?_⟩
    refine List.forall_mem_cons.2 ⟨fun x => rankRow_eq (initRank x0 x1 x2 x3 x4 x5 x6 x7 x8) 2 128 (by decide) (by decide) slices_S1024x128_o128_0_S128x128 slices_S128x128_o2_0_S1x128 inb_S8x1x1024_S1x1x128_2_0_128 x, ?_⟩
    refine List.forall_mem_cons.2 ⟨fun x => rankRow_eq (initRank x0 x1 x2 x3 x4 x5 x6 x7 x8) 1 128 (by decide) (by decide) slices_S1024x128_o128_0_S128x128 slices_S128x128_o1_0_S1x128 inb_S8x1x1024_S1x1x128_1_0_128 x, ?_⟩
    refine List.forall_mem_cons.2 ⟨fun x => rankRow_eq (initRank x0 x1 x2 x3 x4 x5 x6 x7 x8) 0 128 (by decide) (by decide) slices_S1024x128_o128_0_S128x128 slices_S128x128_o0_0_S1x128 inb_S8x1x1024_S1x1x128_0_0_128 x, ?_⟩
    refine List.forall_mem_cons.2 ⟨fun x => rankRow_eq (initRank x0 x1 x2 x3 x4 x5 x6 x7 x8) 7 0 (by decide) (by decide) slices_S1024x128_o0_0_S128x128 slices_S128x128_o7_0_S1x128 inb_S8x1x1024_S1x1x128_7_0_0 x, ?_⟩
    refine List.forall_mem_cons.2 ⟨fun x => rankRow_eq (initRank x0 x1 x2 x3 x4 x5 x6 x7 x8) 6 0 (by decide) (by decide) slices_S1024x128_o0_0_S128x128 slices_S128x128_o6_0_S1x128 inb_S8x1x1024_S1x1x128_6_0_0 x, ?_⟩
    refine List.forall_mem_cons.2 ⟨fun x => rankRow_eq (initRank x0 x1 x2 x3 x4 x5 x6 x7 x8) 5 0 (by decide) (by decide) slices_S1024x128_o0_0_S128x128 slices_S128x128_o5_0_S1x128 inb_S8x1x1024_S1x1x128_5_0_0 x, ?_⟩
    refine List.forall_mem_cons.2 ⟨fun x => rankRow_eq (initRank x0 x1 x2 x3 x4 x5 x6 x7 x8) 4 0 (by decide) (by decide) slices_S1024x128_o0_0_S128x128 slices_S128x128_o4_0_S1x128 inb_S8x1x1024_S1x1x128_4_0_0 x, ?_⟩
    refine List.forall_mem_cons.2 ⟨fun x => rankRow_eq (initRank x0 x1 x2 x3 x4 x5 x6 x7 x8) 3 0 (by decide) (by decide) slices_S1024x128_o0_0_S128x128 slices_S128x128_o3_0_S1x128 inb_S8x1x1024_S1x1x128_3_0_0 x, ?_⟩
    refine List.forall_mem_cons.2 ⟨fun x => rankRow_eq (initRank x0 x1 x2 x3 x4 x5 x6 x7 x8) 2 0 (by decide) (by decide) slices_S1024x128_o0_0_S128x128 slices_S128x128_o2_0_S1x128 inb_S8x1x1024_S1x1x128_2_0_0 x, ?_⟩
    refine List.forall_mem_cons.2 ⟨fun x => rankRow_eq (initRank x0 x1 x2 x3 x4 x5 x6 x7 x8) 1 0 (by decide) (by decide) slices_S1024x128_o0_0_S128x128 slices_S128x128_o1_0_S1x128 inb_S8x1x1024_S1x1x128_1_0_0 x, ?_⟩
    refine List.forall_mem_cons.2 ⟨fun x => rankRow_eq (initRank x0 x1 x2 x3 x4 x5 x6 x7 x8) 0 0 (by decide) (by decide) slices_S1024x128_o0_0_S128x128 slices_S128x128_o0_0_S1x128 inb_S8x1x1024_S1x1x128_0_0_0 x, ?_⟩
    exact fun p hp => absurd hp List.not_mem_nil
  isplitl [H19]
  · iexists _; isplitr; swap; · iexact H19
    ipureintro
    rw [store_8x128]
    sl_unfold_run_values
    simp only [load_1024x1024, load_1024x512, load_512x1024, load_1x1024, load_1024x128, load_8x128, Memref.IsWhole.read_unread]
    rfl
  iexists _, _; isplitr; swap; · iexact H20
  ipureintro; rfl

end Cert.KernelIdeal.Moe

end
-- ==== Proof.Moe.Data.lean ====
/-
  The expert kernel's pipeline as data: which points store what, what the scratch carries, what each window holds.
-/
module

public import proofs.«01_k».proof.Proof.Moe.Init
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A point is the first of its tile when its number is a multiple of eight. -/
theorem first_iff (t : Fin cfg0.N) : first (grid0.coords t) ↔ t.val % 8 = 0 := by
  have ht : t.val < 512 := Nat.lt_of_lt_of_eq t.isLt N_0
  have e1 : (grid0.coords t 1).val = t.val / 1 % 8 := Pipeline.Grid.coords_val t 1 (by decide) rfl
  simp only [first, e1]
  word_cmp

/-- A point is the last of its tile when its number is seven past a multiple of eight. -/
theorem last_iff (t : Fin cfg0.N) : last (grid0.coords t) ↔ t.val % 8 = 7 := by
  have ht : t.val < 512 := Nat.lt_of_lt_of_eq t.isLt N_0
  have e1 : (grid0.coords t 1).val = t.val / 1 % 8 := Pipeline.Grid.coords_val t 1 (by decide) rfl
  simp only [last, k0_cond2, e1]
  word_cmp

/-- Away from a tile's last point the output block is neither stored nor written back. -/
theorem out_idle : ∀ t : Fin cfg0.N, ¬last (grid0.coords t) → cfg0.idle 12 (grid0.coords t) = true ∧ (cfg0.win 12).flush t = false := by
  decide +kernel

/-- At a tile's last point it is stored. -/
theorem out_live : ∀ t : Fin cfg0.N, last (grid0.coords t) → cfg0.idle 12 (grid0.coords t) = false := by decide +kernel

/-- The staging buffer a window is on at a point, and its wholeness. -/
abbrev stg0 (t : Fin cfg0.N) : Memref sig .tc .vmem S1024x1024 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1024x512 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S1024x512 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S512x1024 .bf16 := win0_3.stage (cfg0.slots t 3)
abbrev whole3 (t : Fin cfg0.N) : (stg3 t).IsWhole := hstage0_3 ((cfg0.slots t 3).cast nbuf0_3)
abbrev stg4 (t : Fin cfg0.N) : Memref sig .tc .vmem S512x1024 .bf16 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x1024 .f32 := win0_5.stage (cfg0.slots t 5)
abbrev whole5 (t : Fin cfg0.N) : (stg5 t).IsWhole := hstage0_5 ((cfg0.slots t 5).cast nbuf0_5)
abbrev stg6 (t : Fin cfg0.N) : Memref sig .tc .vmem S1024x128 .bf16 := win0_6.stage (cfg0.slots t 6)
abbrev whole6 (t : Fin cfg0.N) : (stg6 t).IsWhole := hstage0_6 ((cfg0.slots t 6).cast nbuf0_6)
abbrev stg7 (t : Fin cfg0.N) : Memref sig .tc .vmem S1024x128 .bf16 := win0_7.stage (cfg0.slots t 7)
abbrev whole7 (t : Fin cfg0.N) : (stg7 t).IsWhole := hstage0_7 ((cfg0.slots t 7).cast nbuf0_7)
abbrev stg8 (t : Fin cfg0.N) : Memref sig .tc .vmem S1024x1024 .bf16 := win0_8.stage (cfg0.slots t 8)
abbrev whole8 (t : Fin cfg0.N) : (stg8 t).IsWhole := hstage0_8 ((cfg0.slots t 8).cast nbuf0_8)
abbrev stg9 (t : Fin cfg0.N) : Memref sig .tc .vmem S1x1024x1408 .bf16 := win0_9.stage (cfg0.slots t 9)
abbrev whole9 (t : Fin cfg0.N) : (stg9 t).IsWhole := hstage0_9 ((cfg0.slots t 9).cast nbuf0_9)
abbrev stg10 (t : Fin cfg0.N) : Memref sig .tc .vmem S1x1024x1408 .bf16 := win0_10.stage (cfg0.slots t 10)
abbrev whole10 (t : Fin cfg0.N) : (stg10 t).IsWhole := hstage0_10 ((cfg0.slots t 10).cast nbuf0_10)
abbrev stg11 (t : Fin cfg0.N) : Memref sig .tc .vmem S1x1408x1024 .bf16 := win0_11.stage (cfg0.slots t 11)
abbrev whole11 (t : Fin cfg0.N) : (stg11 t).IsWhole := hstage0_11 ((cfg0.slots t 11).cast nbuf0_11)
abbrev stg12 (t : Fin cfg0.N) : Memref sig .tc .vmem S1024x1024 .f32 := win0_12.stage (cfg0.slots t 12)
abbrev whole12 (t : Fin cfg0.N) : (stg12 t).IsWhole := hstage0_12 ((cfg0.slots t 12).cast nbuf0_12)

/-- The scratch buffers. -/
abbrev scr0 : Memref sig .tc .vmem S1024x1024 .bf16 := Memref.whole cc0_scratch0
abbrev scr1 : Memref sig .tc .vmem S1024x128 .f32 := Memref.whole cc0_scratch1
abbrev scr2 : Memref sig .tc .vmem S1024x128 .f32 := Memref.whole cc0_scratch2
abbrev scr3 : Memref sig .tc .vmem S8x1x1024 .f32 := Memref.whole cc0_scratch3
abbrev scr4 : Memref sig .tc .vmem S8x128 .f32 := Memref.whole cc0_scratch4
abbrev scr5 : Memref sig .tc .vmem S1024x1024 .f32 := Memref.whole cc0_scratch5

/-- Between points the region owns the scratch, here at anything, and the generator register. -/
theorem rest_eq (c : Dev nD) : (Pipeline.ΦA spec0 c : sProp 𝕄) = iprop(((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

variable (m : (ℓ : Loc nD τ sig) → Buf (Elt F) ℓ) (ρ : Dev nD → PrngReg)

/-- What the scratch carries from point to point. -/
structure Held (F : FTy → Type) where
  h : Vec F S1024x1024 .bf16
  gate : Vec F S1024x128 .f32
  rt : Vec F S8x1x1024 .f32
  cnt : Vec F S8x128 .f32
  acc : Vec F S1024x1024 .f32

/-- One expert's work at a point on what the scratch holds. -/
def Held.next (c : Dev nD) (t : Fin cfg0.N) (s : Held F) : Held F where
  h := s.h
  gate := s.gate
  rt := s.rt
  cnt := s.cnt
  acc := accNext (grid0.coords t) s.gate s.rt s.cnt s.h (iblk m c 9 t) (iblk m c 10 t) (iblk m c 11 t) s.acc

/-- The scratch once the routing of a tile has been worked out. -/
def routed (c : Dev nD) (t : Fin cfg0.N) : Held F where
  h := initH (iblk m c 0 t) (iblk m c 1 t) (iblk m c 2 t) (iblk m c 3 t) (iblk m c 4 t) (iblk m c 5 t)
  gate := initGate (iblk m c 0 t) (iblk m c 1 t) (iblk m c 2 t) (iblk m c 3 t) (iblk m c 4 t) (iblk m c 5 t) (iblk m c 6 t) (iblk m c 7 t)
  rt := rankRows (initRank (iblk m c 0 t) (iblk m c 1 t) (iblk m c 2 t) (iblk m c 3 t) (iblk m c 4 t) (iblk m c 5 t) (iblk m c 6 t) (iblk m c 7 t) (iblk m c 8 t))
  cnt := initCnt (iblk m c 0 t) (iblk m c 1 t) (iblk m c 2 t) (iblk m c 3 t) (iblk m c 4 t) (iblk m c 5 t) (iblk m c 6 t) (iblk m c 7 t)
  acc := initAcc (iblk m c 0 t) (iblk m c 1 t) (iblk m c 2 t) (iblk m c 3 t) (iblk m c 4 t)

/-- The scratch after each point. -/
def heldAt (c : Dev nD) : (n : ℕ) → n < cfg0.N → Held F
  | 0, hn => (routed m c ⟨0, hn⟩).next m c ⟨0, hn⟩
  | n + 1, hn =>
    if (n + 1) % 8 = 0 then (routed m c ⟨n + 1, hn⟩).next m c ⟨n + 1, hn⟩
    else (heldAt c n (Nat.lt_of_succ_lt hn)).next m c ⟨n + 1, hn⟩

theorem heldAt_first (c : Dev nD) (t : Fin cfg0.N) (h0 : t.val % 8 = 0) : heldAt m c t.val t.isLt = (routed m c t).next m c t := by
  obtain ⟨n, hn⟩ := t
  cases n with
  | zero => rfl
  | succ n => exact if_pos h0

theorem heldAt_next (c : Dev nD) (n : ℕ) (hn : n + 1 < cfg0.N) (h0 : (n + 1) % 8 ≠ 0) :
    heldAt m c (n + 1) hn = (heldAt m c n (Nat.lt_of_succ_lt hn)).next m c ⟨n + 1, hn⟩ := if_neg h0

/-- The invariant between points: before the first the scratch is at anything, afterwards at what the point before left. -/
def inv (c : Dev nD) : (n : ℕ) → n ≤ cfg0.N → sProp 𝕄
  | 0, _ => Pipeline.ΦA spec0 c
  | n + 1, hn => iprop((owns (c : Thread nD τ) scr0 fullShare (heldAt m c n hn).h ∗ owns (c : Thread nD τ) scr1 fullShare (heldAt m c n hn).gate ∗ (∃ d, owns (c : Thread nD τ) scr2 fullShare d) ∗ owns (c : Thread nD τ) scr3 fullShare (heldAt m c n hn).rt ∗ owns (c : Thread nD τ) scr4 fullShare (heldAt m c n hn).cnt ∗ owns (c : Thread nD τ) scr5 fullShare (heldAt m c n hn).acc) ∗ (∃ r, prngReg c r))

/-- Whatever the scratch holds, it is owned at something. -/
theorem inv_any (c : Dev nD) (n : ℕ) (h : n ≤ cfg0.N) : inv m c n h ⊢ (Pipeline.ΦA spec0 c : sProp 𝕄) := by
  cases n with
  | zero => exact .rfl
  | succ n =>
    rw [rest_eq]; unfold inv
    iintro ⟨⟨H0, H1, H2, H3, H4, H5⟩, Hg⟩
    isplitr [Hg]; swap; · iexact Hg
    isplitl [H0]; · iexists _; iexact H0
    isplitl [H1]; · iexists _; iexact H1
    isplitl [H2]; · iexact H2
    isplitl [H3]; · iexists _; iexact H3
    isplitl [H4]; · iexists _; iexact H4
    iexists _; iexact H5

/-- The pipeline's proof data: every input block stays in place, the output block is the accumulator, and the scratch is as the
    invariant says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (heldAt m c t.val t.isLt).acc
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl, after_0]

theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl, after_1]

theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl, after_2]

theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl, after_3]

theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) : (dats m 0 c).leavesExact 4 t = owns (c : Thread nD τ) (stg4 t) fullShare (iblk m c 4 t) := by
  unfold Dat.leavesExact; rw [show cfg0.idle 4 (grid0.coords t) = false from rfl, after_4]

theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) : (dats m 0 c).leavesExact 5 t = owns (c : Thread nD τ) (stg5 t) fullShare (iblk m c 5 t) := by
  unfold Dat.leavesExact; rw [show cfg0.idle 5 (grid0.coords t) = false from rfl, after_5]

theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) : (dats m 0 c).leavesExact 6 t = owns (c : Thread nD τ) (stg6 t) fullShare (iblk m c 6 t) := by
  unfold Dat.leavesExact; rw [show cfg0.idle 6 (grid0.coords t) = false from rfl, after_6]

theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) : (dats m 0 c).leavesExact 7 t = owns (c : Thread nD τ) (stg7 t) fullShare (iblk m c 7 t) := by
  unfold Dat.leavesExact; rw [show cfg0.idle 7 (grid0.coords t) = false from rfl, after_7]

theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem leaves_8 (c : Dev nD) (t : Fin cfg0.N) : (dats m 0 c).leavesExact 8 t = owns (c : Thread nD τ) (stg8 t) fullShare (iblk m c 8 t) := by
  unfold Dat.leavesExact; rw [show cfg0.idle 8 (grid0.coords t) = false from rfl, after_8]

theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem leaves_9 (c : Dev nD) (t : Fin cfg0.N) : (dats m 0 c).leavesExact 9 t = owns (c : Thread nD τ) (stg9 t) fullShare (iblk m c 9 t) := by
  unfold Dat.leavesExact; rw [show cfg0.idle 9 (grid0.coords t) = false from rfl, after_9]

theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem leaves_10 (c : Dev nD) (t : Fin cfg0.N) : (dats m 0 c).leavesExact 10 t = owns (c : Thread nD τ) (stg10 t) fullShare (iblk m c 10 t) := by
  unfold Dat.leavesExact; rw [show cfg0.idle 10 (grid0.coords t) = false from rfl, after_10]

theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem leaves_11 (c : Dev nD) (t : Fin cfg0.N) : (dats m 0 c).leavesExact 11 t = owns (c : Thread nD τ) (stg11 t) fullShare (iblk m c 11 t) := by
  unfold Dat.leavesExact; rw [show cfg0.idle 11 (grid0.coords t) = false from rfl, after_11]

theorem after_12 (c : Dev nD) (t : Fin cfg0.N) : (dats m 0 c).after 12 t = (heldAt m c t.val t.isLt).acc := by dsimp only [dats]

theorem inv_before (c : Dev nD) (t : Fin cfg0.N) : (dats m 0 c).Φ t.castSucc = inv m c t.val (Nat.le_of_lt t.isLt) := by
  dsimp only [dats]; exact Pipeline.Dat.Φ_castSucc (inv m c) t

theorem inv_after (c : Dev nD) (t : Fin cfg0.N) : (dats m 0 c).Φ t.succ = iprop((owns (c : Thread nD τ) scr0 fullShare (heldAt m c t.val t.isLt).h ∗ owns (c : Thread nD τ) scr1 fullShare (heldAt m c t.val t.isLt).gate ∗ (∃ d, owns (c : Thread nD τ) scr2 fullShare d) ∗ owns (c : Thread nD τ) scr3 fullShare (heldAt m c t.val t.isLt).rt ∗ owns (c : Thread nD τ) scr4 fullShare (heldAt m c t.val t.isLt).cnt ∗ owns (c : Thread nD τ) scr5 fullShare (heldAt m c t.val t.isLt).acc) ∗ (∃ r, prngReg c r)) := by
  rw [show (dats m 0 c).Φ t.succ = inv m c (t.val + 1) t.isLt from rfl]; rfl

end Cert.KernelIdeal.Moe

end
-- ==== Proof.Moe.RunA.lean ====
/-
  The body at the first expert of a token tile: the routing, then the first expert.
-/
module

public import proofs.«01_k».proof.Proof.Moe.Init

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- The first point of a tile: from any scratch, the routing is worked out, the accumulator starts at the residual rows and moves
    on by the first expert. -/
theorem runA (c : Dev nD) (i : grid0.Coords) (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x1024 .bf16) (harg10 : arg10.IsWhole) (arg11 : Memref sig .tc .vmem S1x1024x1408 .bf16) (harg11 : arg11.IsWhole) (arg12 : Memref sig .tc .vmem S1x1024x1408 .bf16) (harg12 : arg12.IsWhole) (arg13 : Memref sig .tc .vmem S1x1408x1024 .bf16) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S8x1x1024 .f32) (harg18 : arg18.IsWhole) (arg19 : Memref sig .tc .vmem S8x128 .f32) (harg19 : arg19.IsWhole) (arg20 : Memref sig .tc .vmem S1024x1024 .f32) (harg20 : arg20.IsWhole)
    (hc0 : first i) (hc1 : ¬last i)
    (x0 : Vec F S1024x1024 .f32) (x1 x2 : Vec F S1024x512 .bf16) (x3 x4 : Vec F S512x1024 .bf16) (x5 : Vec F S1x1024 .f32)
    (x6 x7 : Vec F S1024x128 .bf16) (x8 : Vec F S1024x1024 .bf16) (x9 x10 : Vec F S1x1024x1408 .bf16) (x11 : Vec F S1x1408x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg15 fullShare (initH x0 x1 x2 x3 x4 x5) ∗ owns (c : Thread nD τ) arg16 fullShare (initGate x0 x1 x2 x3 x4 x5 x6 x7) ∗ (∃ d, owns (c : Thread nD τ) arg17 fullShare d) ∗ owns (c : Thread nD τ) arg18 fullShare (rankRows (initRank x0 x1 x2 x3 x4 x5 x6 x7 x8)) ∗ owns (c : Thread nD τ) arg19 fullShare (initCnt x0 x1 x2 x3 x4 x5 x6 x7) ∗ owns (c : Thread nD τ) arg20 fullShare (accNext i (initGate x0 x1 x2 x3 x4 x5 x6 x7) (rankRows (initRank x0 x1 x2 x3 x4 x5 x6 x7 x8)) (initCnt x0 x1 x2 x3 x4 x5 x6 x7) (initH x0 x1 x2 x3 x4 x5) x9 x10 x11 (initAcc x0 x1 x2 x3 x4))) -∗ K PUnit.unit))
    ⊢ wp frame (wpE (defs₀ (F := F)) Variants.none c none) E (cc0_ffn_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    simp only [cc0_ffn_moe_eq_skeleton]; unfold cc0_ffn_moe_skel
    simp only [k0_part15_eq_skeleton]
    have hinit := fun K' => init_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 E K'
    unfold k0_part15_skel
    dsimp only
    unfold lanes at hinit
    generalize k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (iota .tc S1024x128 32 [1] iota_S1024x128_d1_w32) = P at hinit ⊢
    unfold owns at hinit ⊢
    iintro ⟨H2, H3, H4, H5, H6, H7, H8, H9, H10, ⟨%f11, %hf11, H11⟩, ⟨%f12, %hf12, H12⟩, ⟨%f13, %hf13, H13⟩, H15, H16, H17, H18, H19, H20, Hk⟩
    obtain rfl := harg11.eq_unread hf11; obtain rfl := harg12.eq_unread hf12; obtain rfl := harg13.eq_unread hf13
    sl_exec (disch := first | sl_exact hc0 | sl_exact hc1 | exact chk _)
    rw [wp_bind, wp_bind]
    iapply hinit
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H15]; · iexact H15
    isplitl [H16]; · iexact H16
    isplitl [H17]; · iexact H17
    isplitl [H18]; · iexact H18
    isplitl [H19]; · iexact H19
    isplitl [H20]; · iexact H20
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f15, %hf15, H15⟩, ⟨%f16, %hf16, H16⟩, ⟨%d17, %f17, %hf17, H17⟩, ⟨%f18, %hf18, H18⟩, ⟨%f19, %hf19, H19⟩, ⟨%d20, %f20, %hf20, H20⟩⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg15.eq_unread hf15; obtain rfl := harg16.eq_unread hf16; obtain rfl := harg18.eq_unread hf18; obtain rfl := harg19.eq_unread hf19
    sl_exec (disch := first | sl_exact hc0 | sl_exact hc1 | exact chk _)
    have e20 : arg20.view.writes (Elt F) arg20.view.junk (runA.sl.H20_1 (F := F) x0 x1 x2 x3 x4) = harg20.unread (initAcc x0 x1 x2 x3 x4) := by
      sl_unfold_run_values
      exact harg20.eq_unread (store_1024x1024 arg20.view arg20.view.junk inb_S1024x1024_S1024x1024_0_0 (initAcc x0 x1 x2 x3 x4) [])
    ihave H20 := (show (arg20.view.loc (c : Thread nD τ) ↦[arg20.view.set]{fullShare} arg20.view.writes (Elt F) arg20.view.junk (runA.sl.H20_1 (F := F) x0 x1 x2 x3 x4) : sProp 𝕄)
        ⊢ (arg20.view.loc (c : Thread nD τ) ↦[arg20.view.set]{fullShare} harg20.unread (initAcc x0 x1 x2 x3 x4)) from
      (Entails.of_eq (congrArg (fun g => iprop(arg20.view.loc (c : Thread nD τ) ↦[arg20.view.set]{fullShare} g)) e20))) $$ H20
    sl_exec (disch := first | sl_exact hc0 | sl_exact hc1 | exact chk _)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H15]
    · iexists _; isplitr; · ipureintro; exact harg15.read_unread _
      iexact H15
    isplitl [H16]
    · iexists _; isplitr; · ipureintro; exact harg16.read_unread _
      iexact H16
    isplitl [H17]
    · iexists d17, f17; isplitr; swap; · iexact H17
      ipureintro; assumption
    isplitl [H18]
    · iexists _; isplitr; · ipureintro; exact harg18.read_unread _
      iexact H18
    isplitl [H19]
    · iexists _; isplitr; · ipureintro; exact harg19.read_unread _
      iexact H19
    iexists _; isplitr; swap; · iexact H20
    ipureintro
    rw [harg20.read_unread]
    sl_unfold_run_values
    simp only [load_1024x1024, load_1024x128, load_8x128, Memref.IsWhole.read_unread]
    rw [rankBlk_read]
    rfl

end Cert.KernelIdeal.Moe

end
-- ==== Proof.Moe.RunB.lean ====
/-
  The body at a middle expert of a token tile: only the accumulator changes.
-/
module

public import proofs.«01_k».proof.Proof.Moe.State

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1200000 in
/-- A middle point: from the scratch as the point before left it, the accumulator moves on by the expert. -/
theorem runB (c : Dev nD) (i : grid0.Coords) (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x1024 .bf16) (harg10 : arg10.IsWhole) (arg11 : Memref sig .tc .vmem S1x1024x1408 .bf16) (harg11 : arg11.IsWhole) (arg12 : Memref sig .tc .vmem S1x1024x1408 .bf16) (harg12 : arg12.IsWhole) (arg13 : Memref sig .tc .vmem S1x1408x1024 .bf16) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S8x1x1024 .f32) (harg18 : arg18.IsWhole) (arg19 : Memref sig .tc .vmem S8x128 .f32) (harg19 : arg19.IsWhole) (arg20 : Memref sig .tc .vmem S1024x1024 .f32) (harg20 : arg20.IsWhole)
    (hc0 : ¬first i) (hc1 : ¬last i)
    (wg wu : Vec F S1x1024x1408 .bf16) (wd : Vec F S1x1408x1024 .bf16) (h : Vec F S1024x1024 .bf16) (gate : Vec F S1024x128 .f32)
    (rt : Vec F S8x1x1024 .f32) (cnt : Vec F S8x128 .f32) (acc : Vec F S1024x1024 .f32) (E : Set ℕ) (K : PUnit → sProp 𝕄) :
    iprop(owns (c : Thread nD τ) arg11 fullShare wg ∗ owns (c : Thread nD τ) arg12 fullShare wu ∗ owns (c : Thread nD τ) arg13 fullShare wd ∗ owns (c : Thread nD τ) arg15 fullShare h ∗ owns (c : Thread nD τ) arg16 fullShare gate ∗ owns (c : Thread nD τ) arg18 fullShare rt ∗ owns (c : Thread nD τ) arg19 fullShare cnt ∗ owns (c : Thread nD τ) arg20 fullShare acc
      ∗ (iprop(owns (c : Thread nD τ) arg11 fullShare wg ∗ owns (c : Thread nD τ) arg12 fullShare wu ∗ owns (c : Thread nD τ) arg13 fullShare wd ∗ owns (c : Thread nD τ) arg15 fullShare h ∗ owns (c : Thread nD τ) arg16 fullShare gate ∗ owns (c : Thread nD τ) arg18 fullShare rt ∗ owns (c : Thread nD τ) arg19 fullShare cnt ∗ owns (c : Thread nD τ) arg20 fullShare (accNext i gate rt cnt h wg wu wd acc)) -∗ K PUnit.unit))
    ⊢ wp frame (wpE (defs₀ (F := F)) Variants.none c none) E (cc0_ffn_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    simp only [cc0_ffn_moe_eq_skeleton]; unfold cc0_ffn_moe_skel
    simp only [k0_part15_eq_skeleton]
    unfold owns
    iintro ⟨⟨%f11, %hf11, H11⟩, ⟨%f12, %hf12, H12⟩, ⟨%f13, %hf13, H13⟩, ⟨%f15, %hf15, H15⟩, ⟨%f16, %hf16, H16⟩, ⟨%f18, %hf18, H18⟩, ⟨%f19, %hf19, H19⟩, ⟨%f20, %hf20, H20⟩, Hk⟩
    obtain rfl := harg11.eq_unread hf11; obtain rfl := harg12.eq_unread hf12; obtain rfl := harg13.eq_unread hf13; obtain rfl := harg15.eq_unread hf15; obtain rfl := harg16.eq_unread hf16; obtain rfl := harg18.eq_unread hf18; obtain rfl := harg19.eq_unread hf19; obtain rfl := harg20.eq_unread hf20
    sl_exec (disch := first | sl_exact hc0 | sl_exact hc1 | exact chk _)
    sl_step
    iapply Hk
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H15]
    · iexists _; isplitr; · ipureintro; exact harg15.read_unread _
      iexact H15
    isplitl [H16]
    · iexists _; isplitr; · ipureintro; exact harg16.read_unread _
      iexact H16
    isplitl [H18]
    · iexists _; isplitr; · ipureintro; exact harg18.read_unread _
      iexact H18
    isplitl [H19]
    · iexists _; isplitr; · ipureintro; exact harg19.read_unread _
      iexact H19
    iexists _; isplitr; swap; · iexact H20
    ipureintro
    rw [harg20.read_unread]
    sl_unfold_run_values
    simp only [load_1024x1024, load_1024x128, load_8x128, Memref.IsWhole.read_unread]
    rw [rankBlk_read]
    rfl

end Cert.KernelIdeal.Moe

end
-- ==== Proof.Moe.RunC.lean ====
/-
  The body at the last expert of a token tile: the accumulator moves on and is stored as the tile's result.
-/
module

public import proofs.«01_k».proof.Proof.Moe.State

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1200000 in
/-- The last point of a tile: the accumulator moves on by the expert, and the output block is its copy. -/
theorem runC (c : Dev nD) (i : grid0.Coords) (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x1024 .bf16) (harg10 : arg10.IsWhole) (arg11 : Memref sig .tc .vmem S1x1024x1408 .bf16) (harg11 : arg11.IsWhole) (arg12 : Memref sig .tc .vmem S1x1024x1408 .bf16) (harg12 : arg12.IsWhole) (arg13 : Memref sig .tc .vmem S1x1408x1024 .bf16) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x128 .f32) (harg17 : arg17.IsWhole) (arg18 : Memref sig .tc .vmem S8x1x1024 .f32) (harg18 : arg18.IsWhole) (arg19 : Memref sig .tc .vmem S8x128 .f32) (harg19 : arg19.IsWhole) (arg20 : Memref sig .tc .vmem S1024x1024 .f32) (harg20 : arg20.IsWhole)
    (hc0 : ¬first i) (hc1 : last i)
    (wg wu : Vec F S1x1024x1408 .bf16) (wd : Vec F S1x1408x1024 .bf16) (h : Vec F S1024x1024 .bf16) (gate : Vec F S1024x128 .f32)
    (rt : Vec F S8x1x1024 .f32) (cnt : Vec F S8x128 .f32) (acc : Vec F S1024x1024 .f32) (E : Set ℕ) (K : PUnit → sProp 𝕄) :
    iprop(owns (c : Thread nD τ) arg11 fullShare wg ∗ owns (c : Thread nD τ) arg12 fullShare wu ∗ owns (c : Thread nD τ) arg13 fullShare wd ∗ (∃ d, owns (c : Thread nD τ) arg14 fullShare d) ∗ owns (c : Thread nD τ) arg15 fullShare h ∗ owns (c : Thread nD τ) arg16 fullShare gate ∗ owns (c : Thread nD τ) arg18 fullShare rt ∗ owns (c : Thread nD τ) arg19 fullShare cnt ∗ owns (c : Thread nD τ) arg20 fullShare acc
      ∗ (iprop(owns (c : Thread nD τ) arg11 fullShare wg ∗ owns (c : Thread nD τ) arg12 fullShare wu ∗ owns (c : Thread nD τ) arg13 fullShare wd ∗ owns (c : Thread nD τ) arg14 fullShare (accNext i gate rt cnt h wg wu wd acc) ∗ owns (c : Thread nD τ) arg15 fullShare h ∗ owns (c : Thread nD τ) arg16 fullShare gate ∗ owns (c : Thread nD τ) arg18 fullShare rt ∗ owns (c : Thread nD τ) arg19 fullShare cnt ∗ owns (c : Thread nD τ) arg20 fullShare (accNext i gate rt cnt h wg wu wd acc)) -∗ K PUnit.unit))
    ⊢ wp frame (wpE (defs₀ (F := F)) Variants.none c none) E (cc0_ffn_moe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    simp only [cc0_ffn_moe_eq_skeleton]; unfold cc0_ffn_moe_skel
    simp only [k0_part15_eq_skeleton]
    unfold owns
    iintro ⟨⟨%f11, %hf11, H11⟩, ⟨%f12, %hf12, H12⟩, ⟨%f13, %hf13, H13⟩, ⟨%d14, %f14, -, H14⟩, ⟨%f15, %hf15, H15⟩, ⟨%f16, %hf16, H16⟩, ⟨%f18, %hf18, H18⟩, ⟨%f19, %hf19, H19⟩, ⟨%f20, %hf20, H20⟩, Hk⟩
    obtain rfl := harg11.eq_unread hf11; obtain rfl := harg12.eq_unread hf12; obtain rfl := harg13.eq_unread hf13; obtain rfl := harg15.eq_unread hf15; obtain rfl := harg16.eq_unread hf16; obtain rfl := harg18.eq_unread hf18; obtain rfl := harg19.eq_unread hf19; obtain rfl := harg20.eq_unread hf20
    sl_exec (disch := first | sl_exact hc0 | sl_exact hc1 | exact chk _)
    sl_step
    iapply Hk
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro
      rw [store_1024x1024]
      sl_unfold_run_values
      simp only [load_1024x1024, load_1024x128, load_8x128, Memref.IsWhole.read_unread]
      rw [rankBlk_read]
      rfl
    isplitl [H15]
    · iexists _; isplitr; · ipureintro; exact harg15.read_unread _
      iexact H15
    isplitl [H16]
    · iexists _; isplitr; · ipureintro; exact harg16.read_unread _
      iexact H16
    isplitl [H18]
    · iexists _; isplitr; · ipureintro; exact harg18.read_unread _
      iexact H18
    isplitl [H19]
    · iexists _; isplitr; · ipureintro; exact harg19.read_unread _
      iexact H19
    iexists _; isplitr; swap; · iexact H20
    ipureintro
    rw [harg20.read_unread]
    sl_unfold_run_values
    simp only [load_1024x1024, load_1024x128, load_8x128, Memref.IsWhole.read_unread]
    rw [rankBlk_read]
    rfl

end Cert.KernelIdeal.Moe

end
-- ==== Proof.Moe.Frame.lean ====
/-
  The expert kernel's frame: the body at every point, the launch, and the arguments unchanged.
-/
module

public import proofs.«01_k».proof.Proof.Moe.Data
public import proofs.«01_k».proof.Proof.Moe.RunA
public import proofs.«01_k».proof.Proof.Moe.RunB
public import proofs.«01_k».proof.Proof.Moe.RunC

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- What it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-! What the scratch holds, part by part. -/

theorem next_h (c : Dev nD) (t : Fin cfg0.N) (s : Held F) : (s.next m c t).h = s.h := by dsimp only [Held.next]
theorem next_gate (c : Dev nD) (t : Fin cfg0.N) (s : Held F) : (s.next m c t).gate = s.gate := by dsimp only [Held.next]
theorem next_rt (c : Dev nD) (t : Fin cfg0.N) (s : Held F) : (s.next m c t).rt = s.rt := by dsimp only [Held.next]
theorem next_cnt (c : Dev nD) (t : Fin cfg0.N) (s : Held F) : (s.next m c t).cnt = s.cnt := by dsimp only [Held.next]
theorem next_acc (c : Dev nD) (t : Fin cfg0.N) (s : Held F) : (s.next m c t).acc
    = accNext (grid0.coords t) s.gate s.rt s.cnt s.h (iblk m c 9 t) (iblk m c 10 t) (iblk m c 11 t) s.acc := by dsimp only [Held.next]
theorem routed_h (c : Dev nD) (t : Fin cfg0.N) : (routed m c t).h = initH (iblk m c 0 t) (iblk m c 1 t) (iblk m c 2 t) (iblk m c 3 t) (iblk m c 4 t) (iblk m c 5 t) := by dsimp only [routed]
theorem routed_gate (c : Dev nD) (t : Fin cfg0.N) : (routed m c t).gate = initGate (iblk m c 0 t) (iblk m c 1 t) (iblk m c 2 t) (iblk m c 3 t) (iblk m c 4 t) (iblk m c 5 t) (iblk m c 6 t) (iblk m c 7 t) := by dsimp only [routed]
theorem routed_rt (c : Dev nD) (t : Fin cfg0.N) : (routed m c t).rt = rankRows (initRank (iblk m c 0 t) (iblk m c 1 t) (iblk m c 2 t) (iblk m c 3 t) (iblk m c 4 t) (iblk m c 5 t) (iblk m c 6 t) (iblk m c 7 t) (iblk m c 8 t)) := by dsimp only [routed]
theorem routed_cnt (c : Dev nD) (t : Fin cfg0.N) : (routed m c t).cnt = initCnt (iblk m c 0 t) (iblk m c 1 t) (iblk m c 2 t) (iblk m c 3 t) (iblk m c 4 t) (iblk m c 5 t) (iblk m c 6 t) (iblk m c 7 t) := by dsimp only [routed]
theorem routed_acc (c : Dev nD) (t : Fin cfg0.N) : (routed m c t).acc = initAcc (iblk m c 0 t) (iblk m c 1 t) (iblk m c 2 t) (iblk m c 3 t) (iblk m c 4 t) := by dsimp only [routed]

/-- Whatever the invariant says, the scratch is there. -/
theorem inv_any' (c : Dev nD) (n : ℕ) (h : n ≤ cfg0.N) : inv m c n h ⊢ iprop(((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) :=
  (inv_any m c n h).trans (Entails.of_eq (rest_eq c))

set_option maxHeartbeats 4000000 in
/-- A tile's first point. -/
theorem body_first (c : Dev nD) (t : Fin cfg0.N) (h0 : t.val % 8 = 0) :
    bodyPre m c t ⊢ wp frame (wpE (defs₀ (F := F)) Variants.none c none) Set.univ (bodyAt0 t) (fun _ => bodyPost m c t) := by
  have hf : first (grid0.coords t) := (first_iff t).2 h0
  have hl : ¬last (grid0.coords t) := fun h => by have := (last_iff t).1 h; omega
  unfold bodyPre bodyPost bodyAt0
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11]
  rw [show (dats m 0 c).owesAt () t.succ = (dats m 0 c).owesAt () t.castSucc from rfl, inv_after, inv_before]
  rw [Dat.leavesExact_idle (dats m 0 c) 12 t (out_idle t hl).1 (out_idle t hl).2]
  rw [heldAt_first m c t h0]
  simp only [next_h, next_gate, next_rt, next_cnt, next_acc, routed_h, routed_gate, routed_rt, routed_cnt, routed_acc]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HI := (inv_any' m c t.val (Nat.le_of_lt t.isLt)) $$ HI
  icases HI with ⟨⟨HS0, HS1, HS2, HS3, HS4, HS5⟩, Hg⟩
  iapply (runA c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (stg12 t) (whole12 t) scr0 (Memref.isWhole_whole _) scr1 (Memref.isWhole_whole _) scr2 (Memref.isWhole_whole _) scr3 (Memref.isWhole_whole _) scr4 (Memref.isWhole_whole _) scr5 (Memref.isWhole_whole _) hf hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitr [Hg]; swap; · iexact Hg
    isplitl [HS0]; · iexact HS0
    isplitl [HS1]; · iexact HS1
    isplitl [HS2]; · iexact HS2
    isplitl [HS3]; · iexact HS3
    isplitl [HS4]; · iexact HS4
    iexact HS5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

set_option maxHeartbeats 4000000 in
/-- A middle point of a tile. -/
theorem body_middle (c : Dev nD) (n : ℕ) (hn : n + 1 < cfg0.N) (t : Fin cfg0.N) (ht : t = ⟨n + 1, hn⟩) (h0 : t.val % 8 ≠ 0) (h1 : t.val % 8 ≠ 7) :
    bodyPre m c t ⊢ wp frame (wpE (defs₀ (F := F)) Variants.none c none) Set.univ (bodyAt0 t) (fun _ => bodyPost m c t) := by
  have hf : ¬first (grid0.coords t) := fun h => h0 ((first_iff t).1 h)
  have hl : ¬last (grid0.coords t) := fun h => h1 ((last_iff t).1 h)
  unfold bodyPre bodyPost bodyAt0
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11]
  rw [show (dats m 0 c).owesAt () t.succ = (dats m 0 c).owesAt () t.castSucc from rfl, inv_after, inv_before]
  rw [Dat.leavesExact_idle (dats m 0 c) 12 t (out_idle t hl).1 (out_idle t hl).2]
  rw [show heldAt m c t.val t.isLt = (heldAt m c n (Nat.lt_of_succ_lt hn)).next m c t from by subst ht; exact heldAt_next m c n hn h0]
  rw [show inv m c t.val (Nat.le_of_lt t.isLt) = iprop((owns (c : Thread nD τ) scr0 fullShare (heldAt m c n (Nat.lt_of_succ_lt hn)).h ∗ owns (c : Thread nD τ) scr1 fullShare (heldAt m c n (Nat.lt_of_succ_lt hn)).gate ∗ (∃ d, owns (c : Thread nD τ) scr2 fullShare d) ∗ owns (c : Thread nD τ) scr3 fullShare (heldAt m c n (Nat.lt_of_succ_lt hn)).rt ∗ owns (c : Thread nD τ) scr4 fullShare (heldAt m c n (Nat.lt_of_succ_lt hn)).cnt ∗ owns (c : Thread nD τ) scr5 fullShare (heldAt m c n (Nat.lt_of_succ_lt hn)).acc) ∗ (∃ r, prngReg c r)) from by subst ht; rfl]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runB c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (stg12 t) (whole12 t) scr0 (Memref.isWhole_whole _) scr1 (Memref.isWhole_whole _) scr2 (Memref.isWhole_whole _) scr3 (Memref.isWhole_whole _) scr4 (Memref.isWhole_whole _) scr5 (Memref.isWhole_whole _) hf hl (iblk m c 9 t) (iblk m c 10 t) (iblk m c 11 t) (heldAt m c n (Nat.lt_of_succ_lt hn)).h (heldAt m c n (Nat.lt_of_succ_lt hn)).gate (heldAt m c n (Nat.lt_of_succ_lt hn)).rt (heldAt m c n (Nat.lt_of_succ_lt hn)).cnt (heldAt m c n (Nat.lt_of_succ_lt hn)).acc Set.univ _)
  isplitl [H9]; · iexact H9
  isplitl [H10]; · iexact H10
  isplitl [H11]; · iexact H11
  isplitl [HS0]; · iexact HS0
  isplitl [HS1]; · iexact HS1
  isplitl [HS3]; · iexact HS3
  isplitl [HS4]; · iexact HS4
  isplitl [HS5]; · iexact HS5
  iintro ⟨H9, H10, H11, HS0, HS1, HS3, HS4, HS5⟩
  isplitl [HS0 HS1 HS2 HS3 HS4 HS5 Hg]
  · isplitr [Hg]; swap; · iexact Hg
    isplitl [HS0]; · iexact HS0
    isplitl [HS1]; · iexact HS1
    isplitl [HS2]; · iexact HS2
    isplitl [HS3]; · iexact HS3
    isplitl [HS4]; · iexact HS4
    iexact HS5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

set_option maxHeartbeats 4000000 in
/-- A tile's last point. -/
theorem body_last (c : Dev nD) (n : ℕ) (hn : n + 1 < cfg0.N) (t : Fin cfg0.N) (ht : t = ⟨n + 1, hn⟩) (h1 : t.val % 8 = 7) :
    bodyPre m c t ⊢ wp frame (wpE (defs₀ (F := F)) Variants.none c none) Set.univ (bodyAt0 t) (fun _ => bodyPost m c t) := by
  have hf : ¬first (grid0.coords t) := fun h => by have := (first_iff t).1 h; omega
  have hl : last (grid0.coords t) := (last_iff t).2 h1
  unfold bodyPre bodyPost bodyAt0
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11]
  rw [show (dats m 0 c).owesAt () t.succ = (dats m 0 c).owesAt () t.castSucc from rfl, inv_after, inv_before]
  rw [show (dats m 0 c).leavesExact 12 t = owns (c : Thread nD τ) (stg12 t) fullShare (heldAt m c t.val t.isLt).acc from by
    unfold Dat.leavesExact; rw [out_live t hl, after_12]]
  rw [show heldAt m c t.val t.isLt = (heldAt m c n (Nat.lt_of_succ_lt hn)).next m c t from by subst ht; exact heldAt_next m c n hn (by intro h; simp only at h1; omega)]
  rw [show inv m c t.val (Nat.le_of_lt t.isLt) = iprop((owns (c : Thread nD τ) scr0 fullShare (heldAt m c n (Nat.lt_of_succ_lt hn)).h ∗ owns (c : Thread nD τ) scr1 fullShare (heldAt m c n (Nat.lt_of_succ_lt hn)).gate ∗ (∃ d, owns (c : Thread nD τ) scr2 fullShare d) ∗ owns (c : Thread nD τ) scr3 fullShare (heldAt m c n (Nat.lt_of_succ_lt hn)).rt ∗ owns (c : Thread nD τ) scr4 fullShare (heldAt m c n (Nat.lt_of_succ_lt hn)).cnt ∗ owns (c : Thread nD τ) scr5 fullShare (heldAt m c n (Nat.lt_of_succ_lt hn)).acc) ∗ (∃ r, prngReg c r)) from by subst ht; rfl]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runC c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (stg9 t) (whole9 t) (stg10 t) (whole10 t) (stg11 t) (whole11 t) (stg12 t) (whole12 t) scr0 (Memref.isWhole_whole _) scr1 (Memref.isWhole_whole _) scr2 (Memref.isWhole_whole _) scr3 (Memref.isWhole_whole _) scr4 (Memref.isWhole_whole _) scr5 (Memref.isWhole_whole _) hf hl (iblk m c 9 t) (iblk m c 10 t) (iblk m c 11 t) (heldAt m c n (Nat.lt_of_succ_lt hn)).h (heldAt m c n (Nat.lt_of_succ_lt hn)).gate (heldAt m c n (Nat.lt_of_succ_lt hn)).rt (heldAt m c n (Nat.lt_of_succ_lt hn)).cnt (heldAt m c n (Nat.lt_of_succ_lt hn)).acc Set.univ _)
  isplitl [H9]; · iexact H9
  isplitl [H10]; · iexact H10
  isplitl [H11]; · iexact H11
  isplitl [H12]; · iexists _; iexact H12
  isplitl [HS0]; · iexact HS0
  isplitl [HS1]; · iexact HS1
  isplitl [HS3]; · iexact HS3
  isplitl [HS4]; · iexact HS4
  isplitl [HS5]; · iexact HS5
  iintro ⟨H9, H10, H11, H12, HS0, HS1, HS3, HS4, HS5⟩
  isplitl [HS0 HS1 HS2 HS3 HS4 HS5 Hg]
  · isplitr [Hg]; swap; · iexact Hg
    isplitl [HS0]; · iexact HS0
    isplitl [HS1]; · iexact HS1
    isplitl [HS2]; · iexact HS2
    isplitl [HS3]; · iexact HS3
    isplitl [HS4]; · iexact HS4
    iexact HS5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- Every point. -/
theorem body_at (c : Dev nD) (t : Fin cfg0.N) : bodyPre m c t ⊢ wp frame (wpE (defs₀ (F := F)) Variants.none c none) Set.univ (bodyAt0 t) (fun _ => bodyPost m c t) := by
  by_cases h0 : t.val % 8 = 0
  · exact body_first m c t h0
  · obtain ⟨n, hn⟩ := t
    cases n with
    | zero => exact absurd rfl h0
    | succ n =>
      by_cases h1 : (n + 1) % 8 = 7
      · exact body_last m c n hn _ rfl h1
      · exact body_middle m c n hn _ rfl h0 h1

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl]; exact .rfl

theorem inv_out (c : Dev nD) : (dats m 0 c).Φ (Fin.last cfg0.N) ⊢ Pipeline.ΦA spec0 c :=
  inv_any m c cfg0.N (Nat.le_refl _)

set_option backward.isDefEq.respectTransparency.types false in
/-- The call's run: every array ends as the proof data computes it, and every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The arguments end as they began, and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Moe

end
-- ==== Proof.Moe.Printed.lean ====
/- The routed kernel as printed runs as its idealized text does: the two body tables are one. -/
module

public import proofs.«01_k».proof.Defs
public import proofs.«01_k».proof.Proof.Gen.Kernel
public import proofs.«01_k».proof.Proof.Moe.Frame

@[expose] public section
set_option maxHeartbeats 8000000
set_option maxRecDepth 16384
noncomputable section
namespace Cert.Kernel.Moe

open Idealize.ShloMosaic Idealize.SL.Sem
attribute [local instance] Cert.Kernel.Gen.facts Cert.KernelIdeal.Gen.facts

/-- The two programs' kernel bodies. -/
theorem bodies : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- Their body tables. -/
theorem tables : Cert.Kernel.defs (F := Bits) = Cert.KernelIdeal.defs (F := Bits) :=
  congrArg (Pipeline.defs (Cert.Kernel.pcfgs (F := Bits))) bodies

/-- The printed kernel's run, by the idealized text's read at the machine's floats. -/
theorem quiet : Cert.quiescent_Kernel := fun m ρ _ => by
  rw [tables]
  exact (θ_run Cert.KernelIdeal.defs _ _).mono (fun _ h => h) (Cert.KernelIdeal.Moe.quiet (F := Bits) m ρ)
end Cert.Kernel.Moe

end
-- ==== Proof.Moe.Count.lean ====
/- Counting the tokens of a tile that an expert takes, and the sums of zeros and ones that the kernel counts them by. Every
   routed token has its own rank below the count, so the slot it is gathered to is hit by it alone. -/
module

public import proofs.«01_k».proof.Proof.Rows

@[expose] public section

noncomputable section

namespace Cert.Rows

open Idealize.ShloMosaic

section
variable {N : ℕ} (R : Fin N → Prop) [DecidablePred R]

/-- How many tokens before `t` are taken. -/
def rank (t : Fin N) : ℕ := (Finset.univ.filter fun s => s < t ∧ R s).card

/-- How many tokens are taken. -/
def total : ℕ := (Finset.univ.filter R).card

theorem total_le : total R ≤ N := by
  unfold total
  exact (Finset.card_le_univ _).trans (by simp)

theorem rank_lt_of_lt {s t : Fin N} (h : s < t) (hs : R s) : rank R s < rank R t := by
  unfold rank
  refine Finset.card_lt_card ((Finset.ssubset_iff_of_subset ?_).mpr ⟨s, ?_, ?_⟩)
  · intro x hx
    simp only [Finset.mem_filter, Finset.mem_univ, true_and] at hx ⊢
    exact ⟨hx.1.trans h, hx.2⟩
  · simp [h, hs]
  · simp

/-- A taken token's rank is below the count. -/
theorem rank_lt_total {t : Fin N} (ht : R t) : rank R t < total R := by
  unfold rank total
  refine Finset.card_lt_card ((Finset.ssubset_iff_of_subset ?_).mpr ⟨t, ?_, ?_⟩)
  · intro x hx
    simp only [Finset.mem_filter, Finset.mem_univ, true_and] at hx ⊢
    exact hx.2
  · simp [ht]
  · simp

/-- Two taken tokens of one rank are one token. -/
theorem rank_inj {s t : Fin N} (hs : R s) (ht : R t) (h : rank R s = rank R t) : s = t := by
  rcases lt_trichotomy s t with hlt | he | hlt
  · have := rank_lt_of_lt R hlt hs; omega
  · exact he
  · have := rank_lt_of_lt R hlt ht; omega

end

/-- A sum of zeros and ones is a count. -/
theorem sum_ones {ι : Type} [DecidableEq ι] (S : Finset ι) (p : ι → Prop) [DecidablePred p] :
    (∑ i ∈ S, if p i then (1 : EReal) else 0) = (((S.filter p).card : ℝ) : EReal) := by
  induction S using Finset.induction_on with
  | empty => simp
  | insert a S ha ih =>
    rw [Finset.sum_insert ha, ih, Finset.filter_insert]
    by_cases h : p a
    · rw [if_pos h, if_pos h, Finset.card_insert_of_notMem (by simp [ha])]
      rw [Nat.cast_succ, EReal.coe_add, EReal.coe_one, add_comm]
    · rw [if_neg h, if_neg h, zero_add]

/-- The sum that picks one term. -/
theorem sum_pick {ι : Type} [Fintype ι] [DecidableEq ι] (p : ι → Prop) [DecidablePred p] (a : ι) (h : ∀ i, p i ↔ i = a) (f : ι → EReal) :
    (∑ i, (if p i then (1 : EReal) else 0) * f i) = f a := by
  rw [Finset.sum_eq_single a]
  · rw [if_pos ((h a).mpr rfl), one_mul]
  · intro b _ hb
    rw [if_neg (fun hp => hb ((h b).mp hp)), zero_mul]
  · intro ha; exact absurd (Finset.mem_univ a) ha

/-- The sum that picks none. -/
theorem sum_none {ι : Type} [Fintype ι] (p : ι → Prop) [DecidablePred p] (h : ∀ i, ¬p i) (f : ι → EReal) :
    (∑ i, (if p i then (1 : EReal) else 0) * f i) = 0 :=
  Finset.sum_eq_zero fun i _ => by rw [if_neg (h i), zero_mul]

/-- A finite sum of reals is real. -/
theorem coe_sum {ι : Type} [DecidableEq ι] (S : Finset ι) (f : ι → ℝ) : (∑ i ∈ S, (f i : EReal)) = ((∑ i ∈ S, f i : ℝ) : EReal) := by
  induction S using Finset.induction_on with
  | empty => simp
  | insert a S ha ih => rw [Finset.sum_insert ha, Finset.sum_insert ha, ih, EReal.coe_add]

end Cert.Rows

end
-- ==== Proof.Moe.Choose.lean ====
/- The routing of one token over eight experts, on extended reals: the softmax of its logits, the two experts first in the order
   of falling probability (ties to the lower number), and the gate of each expert. Beside it the kernel's way of finding them:
   the greatest of a row of lanes and the least lane that attains it. -/
module

public import proofs.«01_k».proof.Proof.Moe.Count
public import Idealize.ShloMosaic.Lib.SortFacts

@[expose] public section

noncomputable section

namespace Cert.Rows

open Idealize.ShloMosaic

/-- The logit of each expert: the row against the router's column. -/
def logit (h : Fin 1024 → EReal) (r : Fin 1024 → Fin 8 → EReal) : Fin 8 → EReal := fun e => ∑ k, h k * r k e

/-- The greatest logit. -/
def peak (z : Fin 8 → EReal) : EReal := Finset.univ.fold max ⊥ z

/-- The softmax. -/
def prob (z : Fin 8 → EReal) : Fin 8 → EReal :=
  fun e => Ideal.div (Ideal.exp (z e - peak z)) (∑ k, Ideal.exp (z k - peak z))

/-- Expert `a` comes before expert `b`: it is more probable, or as probable and of lower number. -/
def earlier (p : Fin 8 → EReal) (a b : Fin 8) : Bool := decide (p b < p a ∨ (p a = p b ∧ a < b))

/-- The first choice and the second. -/
def top1 (p : Fin 8 → EReal) : Fin 8 := sortedFrom (earlier p) 0
def top2 (p : Fin 8 → EReal) : Fin 8 := sortedFrom (earlier p) 1

/-- The gate of an expert: its share of the two choices' probability, and zero off them. -/
def gate (p : Fin 8 → EReal) (e : Fin 8) : EReal :=
  if e = top1 p then Ideal.div (p (top1 p)) (p (top1 p) + p (top2 p))
  else if e = top2 p then Ideal.div (p (top2 p)) (p (top1 p) + p (top2 p)) else 0

/-- The token goes to this expert. -/
def taken (p : Fin 8 → EReal) (e : Fin 8) : Prop := e = top1 p ∨ e = top2 p

instance (p : Fin 8 → EReal) (e : Fin 8) : Decidable (taken p e) := by unfold taken; infer_instance

theorem gate_idle {p : Fin 8 → EReal} {e : Fin 8} (h : ¬taken p e) : gate p e = 0 := by
  unfold taken at h; push Not at h
  unfold gate; rw [if_neg h.1, if_neg h.2]

section order
variable (p : Fin 8 → EReal)

theorem earlier_iff (a b : Fin 8) : earlier p a b = true ↔ (p b < p a ∨ (p a = p b ∧ a < b)) := by
  unfold earlier; exact decide_eq_true_iff

theorem earlier_asymm (a b : Fin 8) (h : earlier p a b = true) : earlier p b a = false := by
  rw [← Bool.not_eq_true, earlier_iff]
  rw [earlier_iff] at h
  rintro (h' | ⟨h', h''⟩)
  · rcases h with h | ⟨h, -⟩
    · exact lt_asymm h h'
    · exact absurd h' (by rw [h]; exact lt_irrefl _)
  · rcases h with h | ⟨-, h⟩
    · exact absurd h (by rw [h']; exact lt_irrefl _)
    · exact lt_asymm h h''

theorem not_earlier_iff (a b : Fin 8) : earlier p a b = false ↔ (p a < p b ∨ (p a = p b ∧ b ≤ a)) := by
  rw [← Bool.not_eq_true, earlier_iff]
  constructor
  · intro h; push Not at h
    rcases lt_or_eq_of_le h.1 with h' | h'
    · exact Or.inl h'
    · exact Or.inr ⟨h', h.2 h'⟩
  · rintro (h | ⟨h, h'⟩) (h'' | ⟨h'', h'''⟩)
    · exact lt_asymm h h''
    · exact absurd h (by rw [h'']; exact lt_irrefl _)
    · exact absurd h'' (by rw [h]; exact lt_irrefl _)
    · exact absurd h''' (not_lt.mpr h')

theorem earlier_trans (a b c : Fin 8) (h : earlier p a b = false) (h' : earlier p b c = false) : earlier p a c = false := by
  rw [not_earlier_iff] at *
  rcases h with h | ⟨h, h1⟩ <;> rcases h' with h' | ⟨h', h2⟩
  · exact Or.inl (h.trans h')
  · exact Or.inl (h' ▸ h)
  · exact Or.inl (h ▸ h')
  · exact Or.inr ⟨h.trans h', h2.trans h1⟩

/-- No later place holds an expert that comes before an earlier place's. -/
theorem places {i j : Fin 8} (hij : i < j) :
    p (sortedFrom (earlier p) j) < p (sortedFrom (earlier p) i)
      ∨ (p (sortedFrom (earlier p) j) = p (sortedFrom (earlier p) i) ∧ sortedFrom (earlier p) i ≤ sortedFrom (earlier p) j) :=
  (not_earlier_iff p _ _).mp
    (sortedFrom_noInversion (earlier p) (earlier p) (earlier_asymm p) (fun _ _ h => h) (earlier_trans p) i j hij)

theorem top_ne : top2 p ≠ top1 p := fun h => absurd (sortedFrom_injective (earlier p) h) (by decide)

/-- The first choice is a most probable expert, and the least numbered of those. -/
theorem top1_spec (k : Fin 8) : p k < p (top1 p) ∨ (p k = p (top1 p) ∧ top1 p ≤ k) := by
  obtain ⟨j, rfl⟩ := sortedFrom_surjective (earlier p) k
  by_cases hj : j = 0
  · subst hj; exact Or.inr ⟨rfl, le_refl _⟩
  · exact places p (Fin.pos_iff_ne_zero.mpr hj)

/-- The second choice is the same among the others. -/
theorem top2_spec (k : Fin 8) (hk : k ≠ top1 p) : p k < p (top2 p) ∨ (p k = p (top2 p) ∧ top2 p ≤ k) := by
  obtain ⟨j, rfl⟩ := sortedFrom_surjective (earlier p) k
  by_cases hj : j = 1
  · subst hj; exact Or.inr ⟨rfl, le_refl _⟩
  · refine places p (i := 1) (j := j) ?_
    have h0 : j ≠ 0 := fun h => hk (by rw [h]; rfl)
    omega

/-- A stable sort of experts in their own order asks only which is strictly more probable. -/
theorem sort_strict (R : Fin 8 → Fin 8 → Bool) (hR : ∀ a b, R a b = decide (p b < p a)) : sortedFrom R = sortedFrom (earlier p) := by
  have key : ∀ l : List (Fin 8), l.Pairwise (· < ·) → stableSort R l = stableSort (earlier p) l := by
    intro l hl
    induction l with
    | nil => rfl
    | cons a l ih =>
      rw [List.pairwise_cons] at hl
      unfold stableSort
      rw [ih hl.2]
      refine insertBefore_congr _ _ _ _ fun b hb => ?_
      have hab : a < b := hl.1 b ((perm_stableSort _ l).mem_iff.mp hb)
      rw [hR]; unfold earlier
      refine decide_eq_decide.mpr ⟨Or.inl, fun h => ?_⟩
      rcases h with h | ⟨-, h⟩
      · exact h
      · exact absurd hab (lt_asymm h)
  funext k
  unfold sortedFrom
  rw [List.get_of_eq (show sortPositions 8 R = sortPositions 8 (earlier p) from key _ (List.pairwise_lt_finRange 8))]
  rfl

end order

/-! ## Real logits -/

/-- The greatest of real logits is real. -/
theorem peak_real (w : Fin 8 → ℝ) : ∃ M : ℝ, peak (fun e => (w e : EReal)) = (M : EReal) := by
  obtain ⟨i, -, hi⟩ := Finset.exists_mem_eq_sup (Finset.univ : Finset (Fin 8)) ⟨0, Finset.mem_univ _⟩ (fun e => (w e : EReal))
  exact ⟨w i, hi⟩

/-- The softmax of real logits is real and positive. -/
theorem prob_real (w : Fin 8 → ℝ) (e : Fin 8) : ∃ q : ℝ, 0 < q ∧ prob (fun e => (w e : EReal)) e = (q : EReal) := by
  obtain ⟨M, hM⟩ := peak_real w
  have hs : (∑ k, Ideal.exp ((w k : EReal) - (M : EReal))) = ((∑ k, Real.exp (w k - M) : ℝ) : EReal) := by
    rw [← coe_sum]
    refine Finset.sum_congr rfl fun k _ => ?_
    rw [← EReal.coe_sub]; rfl
  have hpos : 0 < ∑ k, Real.exp (w k - M) := Finset.sum_pos (fun k _ => Real.exp_pos _) ⟨0, Finset.mem_univ _⟩
  refine ⟨Real.exp (w e - M) * (1 / ∑ k, Real.exp (w k - M)), by positivity, ?_⟩
  unfold prob
  simp only [hM]
  rw [hs, Ideal.div_coe hpos.ne', ← EReal.coe_sub, EReal.coe_mul]
  rfl

/-! ## The kernel's search over lanes -/

/-- The greatest of a row of lanes is what the best lane holds. -/
theorem fold_best (Q : Fin 128 → EReal) (a : Fin 128) (h : ∀ l, Q l ≤ Q a) : Finset.univ.fold max ⊥ Q = Q a :=
  le_antisymm ((Finset.fold_max_le _).mpr ⟨bot_le, fun l _ => h l⟩)
    ((Finset.le_fold_max _).mpr (Or.inr ⟨a, Finset.mem_univ _, le_refl _⟩))

theorem toInt_minsi (x y : BitVec 32) : (IntOp.minsi x y).toInt = min x.toInt y.toInt := by
  unfold IntOp.minsi
  by_cases h : x.slt y = true
  · rw [if_pos h, min_eq_left]; rw [BitVec.slt_iff_toInt_lt] at h; exact le_of_lt h
  · rw [if_neg h, min_eq_right]; rw [BitVec.slt_iff_toInt_lt] at h; exact not_lt.mp h

theorem toInt_lane (l : Fin 128) : (BitVec.ofNat 32 l.val).toInt = (l.val : ℤ) := by
  rw [BitVec.toInt_eq_toNat_of_lt] <;> rw [BitVec.toNat_ofNat, Nat.mod_eq_of_lt (by omega)]
  omega

/-- The least lane that attains a value. -/
theorem fold_least (Q : Fin 128 → EReal) (a : Fin 128) (v : EReal) (ha : Q a = v) (h : ∀ l, Q l = v → a ≤ l) :
    Finset.univ.fold IntOp.minsi 2147483647#32 (fun l : Fin 128 => if Q l = v then BitVec.ofNat 32 l.val else 128#32)
      = BitVec.ofNat 32 a.val := by
  apply BitVec.eq_of_toInt_eq
  rw [← Finset.fold_hom (op' := min) (m := BitVec.toInt) toInt_minsi, toInt_lane]
  apply le_antisymm
  · refine (Finset.fold_min_le _).mpr (Or.inr ⟨a, Finset.mem_univ _, ?_⟩)
    rw [if_pos ha, toInt_lane]
  · refine (Finset.le_fold_min _).mpr ⟨?_, fun l _ => ?_⟩
    · have : (2147483647#32).toInt = 2147483647 := by decide
      rw [this]; omega
    · by_cases hl : Q l = v
      · rw [if_pos hl, toInt_lane]; exact_mod_cast h l hl
      · rw [if_neg hl]
        have : (128#32).toInt = 128 := by decide
        rw [this]; omega

end Cert.Rows

end
-- ==== Proof.Moe.Finite.lean ====
/- Where numbers stay numbers. A normed row is finite whatever row it comes from, given a finite scale: a row with an infinity
   has an infinite sum of squares, whose reciprocal root is zero. So the logits are finite when the router's weights are. -/
module

public import proofs.«01_k».proof.Proof.Moe.Choose
public import Idealize.ShloMosaic.Lib.IdealHost

@[expose] public section

noncomputable section

namespace Cert.Rows

open Idealize.ShloMosaic

/-- The value is a number. -/
def Num (x : EReal) : Prop := ∃ r : ℝ, x = (r : EReal)

theorem Num.mul {x y : EReal} (hx : Num x) (hy : Num y) : Num (x * y) := by
  obtain ⟨a, rfl⟩ := hx; obtain ⟨b, rfl⟩ := hy; exact ⟨a * b, (EReal.coe_mul a b).symm⟩

theorem Num.sub_self {x : EReal} (hx : Num x) : x - x = 0 := by
  obtain ⟨a, rfl⟩ := hx; rw [← EReal.coe_sub, _root_.sub_self, EReal.coe_zero]

theorem Num.sum {ι : Type} [DecidableEq ι] (S : Finset ι) (f : ι → EReal) (h : ∀ i, Num (f i)) : Num (∑ i ∈ S, f i) := by
  choose r hr using h
  exact ⟨∑ i ∈ S, r i, by rw [← coe_sum]; exact Finset.sum_congr rfl fun i _ => hr i⟩

/-- A value whose magnitude is below the infinity's word is a number. -/
theorem real_of_below {x : EReal} (h : max x (-x) < ⊤) : Num x := by
  induction x using EReal.rec with
  | bot => simp at h
  | top => simp at h
  | coe r => exact ⟨r, rfl⟩

theorem top_word : Ideal.ofBits .f32 0x7F800000#32 = ⊤ := by
  simp [Ideal.ofBits, Ideal.ieee]

theorem bot_word : Ideal.ofBits .f32 0xFF800000#32 = ⊥ := by
  simp [Ideal.ofBits, Ideal.ieee]

theorem neg_one_word : Ideal.ofBits .f32 0xBF800000#32 = ((-1 : ℝ) : EReal) := by
  simp [Ideal.ofBits, Ideal.ieee, -EReal.coe_mul, -EReal.coe_neg]; norm_num

theorem width_word : ∃ c : ℝ, 0 < c ∧ Ideal.ofBits .f32 0x44800000#32 = (c : EReal) :=
  ⟨1024, by norm_num, by simp [Ideal.ofBits, Ideal.ieee, -EReal.coe_mul, -EReal.coe_neg]; norm_num⟩

theorem shift_word : ∃ c : ℝ, 0 < c ∧ Ideal.ofBits .f32 0x358637BD#32 = (c : EReal) := by
  refine ⟨_, ?_, by simp [Ideal.ofBits, Ideal.ieee, -EReal.coe_mul]; rfl⟩
  norm_num

theorem sq_nonneg' (x : EReal) : 0 ≤ x * x := by
  induction x using EReal.rec with
  | bot => simp
  | top => simp
  | coe r => rw [← EReal.coe_mul]; exact_mod_cast mul_self_nonneg r

/-- A normed row is finite, given a finite scale. -/
theorem norm_real (x g : Fin 1024 → EReal) (hg : ∀ j, Num (g j)) (j : Fin 1024) : Num (norm x g j) := by
  obtain ⟨c, hc, hc'⟩ := width_word
  obtain ⟨e, he, he'⟩ := shift_word
  unfold norm
  rw [hc', he', Ideal.div_coe hc.ne']
  have h0 : 0 ≤ ∑ k, x k * x k := Finset.sum_nonneg fun k _ => sq_nonneg' (x k)
  by_cases ht : (∑ k, x k * x k) = ⊤
  · rw [ht, EReal.top_mul_coe_of_pos (by positivity), EReal.top_add_coe]
    exact ⟨0, by rw [show Ideal.rsqrt ⊤ = 0 from rfl, mul_zero, zero_mul, EReal.coe_zero]⟩
  · have hx : ∀ k, Num (x k) := fun k => by
      have hk : x k * x k ≤ ∑ k, x k * x k := Finset.single_le_sum (fun i _ => sq_nonneg' (x i)) (Finset.mem_univ k)
      generalize hxk : x k = v at hk
      induction v using EReal.rec with
      | bot => exact absurd (top_le_iff.mp (by simpa using hk)) ht
      | top => exact absurd (top_le_iff.mp (by simpa using hk)) ht
      | coe r => exact ⟨r, rfl⟩
    obtain ⟨s, hs⟩ := Num.sum Finset.univ (fun k => x k * x k) fun k => (hx k).mul (hx k)
    rw [hs] at h0 ⊢
    have h0' : 0 ≤ s := by exact_mod_cast h0
    have hp : 0 < s * (1 / c) + e := by positivity
    refine ((hx j).mul ?_).mul (hg j)
    rw [← EReal.coe_mul, ← EReal.coe_add]
    refine ⟨(Real.sqrt (s * (1 / c) + e))⁻¹, ?_⟩
    show (if s * (1 / c) + e < 0 then ⊥ else if s * (1 / c) + e = 0 then ⊤ else _) = _
    rw [if_neg (not_lt.mpr hp.le), if_neg hp.ne']

/-- The logits of a finite row under finite weights are finite. -/
theorem logit_real (h : Fin 1024 → EReal) (r : Fin 1024 → Fin 8 → EReal) (hh : ∀ k, Num (h k)) (hr : ∀ k e, Num (r k e)) (e : Fin 8) :
    Num (logit h r e) := Num.sum _ _ fun k => (hh k).mul (hr k e)

/-- So the probabilities are numbers above zero. -/
theorem prob_pos (z : Fin 8 → EReal) (hz : ∀ e, Num (z e)) (e : Fin 8) : ∃ q : ℝ, 0 < q ∧ prob z e = (q : EReal) := by
  choose w hw using hz
  obtain rfl : z = fun e => (w e : EReal) := funext hw
  exact prob_real w e

end Cert.Rows

end
-- ==== Proof.Moe.Reference.lean ====
/- The routed reference's stages at an index: the residual stream, the norm, the softmax of the router, the two greatest with
   their places, the gates, and one expert's gated answer. -/
module

public import proofs.«01_k».proof.Proof.Gen.ReferenceIdeal
public import proofs.«01_k».proof.Proof.Moe.Choose
public import proofs.«01_k».proof.Proof.Moe.Finite

@[expose] public section

set_option maxRecDepth 16384

noncomputable section

namespace Cert.ReferenceIdeal.Moe

open Idealize.ShloMosaic Idealize.ShloMosaic.TcCoe Idealize.SL.Sem
open Cert.ReferenceIdeal Cert.ReferenceIdeal.Gen Cert.Rows

/-- The residual stream after the out-projection. -/
def MIX (x : FVec Ideal S8x8192x1024 .f32) (yc at' : FVec Ideal S8x8192x512 .bf16) (w : FVec Ideal S1024x1024 .f32) :
    FVec Ideal S8x8192x1024 .f32 :=
  addf x (Host.dotGeneral dot_S8x8192x1024_S1024x1024_S8x8192x1024_2_0_01_1_n_n none
    (concatenate S8x8192x1024 2 [⟨S8x8192x512, extf .f32 yc bitsLt_bf16_f32⟩, ⟨S8x8192x512, extf .f32 at' bitsLt_bf16_f32⟩]
      concatenates_S8x8192x512_S8x8192x512_S8x8192x1024_d2) w)

/-- Its norm. -/
def NORM (u : FVec Ideal S8x8192x1024 .f32) (g : FVec Ideal S1024 .f32) : FVec Ideal S8x8192x1024 .f32 :=
  mulf (mulf u (broadcastInDim S8x8192x1024 ![0, 1, 2] bcast_S8x8192x1_S8x8192x1024_0_1_2
    (Host.rsqrt (addf (Host.divf (broadcastInDim S8x8192x1 ![0, 1] bcast_S8x8192_S8x8192x1_0_1
        (Host.reduceAdd (mulf u u) (constant S_ .f32 0x00000000#32) reducesTo_S8x8192x1024_S8x8192_d2 h_S_))
      (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2
      (broadcastInDim S1x1x1024 ![2] bcast_S1024_S1x1x1024_2 g))

/-- The router's logits. -/
def LOGITS (h : FVec Ideal S8x8192x1024 .f32) (r : FVec Ideal S1024x8 .f32) : FVec Ideal S8x8192x8 .f32 :=
  Host.dotGeneral dot_S8x8192x1024_S1024x8_S8x8192x8_2_0_01_1_n_n none h r

/-- Their exponentials, less the greatest. -/
def RAISED (z : FVec Ideal S8x8192x8 .f32) : FVec Ideal S8x8192x8 .f32 :=
  Host.exp (subf z (broadcastInDim S8x8192x8 ![0, 1, 2] bcast_S8x8192x1_S8x8192x8_0_1_2
    (broadcastInDim S8x8192x1 ![0, 1] bcast_S8x8192_S8x8192x1_0_1
      (maximumf (broadcastInDim S8x8192 ![] bcast_S_S8x8192 (constant S_ .f32 0xFF800000#32))
        (Host.reduce FloatOps.maximumf z (constant (F := Ideal) S_ .f32 0xFF800000#32) reducesTo_S8x8192x8_S8x8192_d2 h_S_)))))

/-- The softmax. -/
def SOFT (q : FVec Ideal S8x8192x8 .f32) : FVec Ideal S8x8192x8 .f32 :=
  Host.divf q (broadcastInDim S8x8192x8 ![0, 1, 2] bcast_S8x8192x1_S8x8192x8_0_1_2
    (broadcastInDim S8x8192x1 ![0, 1] bcast_S8x8192_S8x8192x1_0_1
      (Host.reduceAdd q (constant S_ .f32 0x00000000#32) reducesTo_S8x8192x8_S8x8192_d2 h_S_)))

/-- The two greatest, and their places. -/
def BEST (p : FVec Ideal S8x8192x8 .f32) : FVec Ideal S8x8192x2 .f32 :=
  (Host.topK S8x8192x2 2 (FloatOps.cmpfTotal (F := Ideal) (φ := .f32) .gt) p sliceFits_S8x8192x8_S8x8192x2).1
def PLACE (p : FVec Ideal S8x8192x8 .f32) : IVec S8x8192x2 32 :=
  (Host.topK S8x8192x2 2 (FloatOps.cmpfTotal (F := Ideal) (φ := .f32) .gt) p sliceFits_S8x8192x8_S8x8192x2).2

/-- Which expert each choice is, one-hot. -/
def HOT (n : IVec S8x8192x2 32) : FVec Ideal S8x8192x2x8 .f32 :=
  uitofp .f32 (cmpi .eq
    (broadcastInDim S8x8192x2x8 ![0, 1, 2, 3] bcast_S8x8192x2x1_S8x8192x2x8_0_1_2_3
      (broadcastInDim S8x8192x2x1 ![0, 1, 2] bcast_S8x8192x2_S8x8192x2x1_0_1_2 n))
    (broadcastInDim S8x8192x2x8 ![0, 1, 2, 3] bcast_S1x1x1x8_S8x8192x2x8_0_1_2_3 (iotaInDim S1x1x1x8 32 3)))

/-- Each choice's share of the two. -/
def SHARES (v : FVec Ideal S8x8192x2 .f32) : FVec Ideal S8x8192x2 .f32 :=
  Host.divf v (broadcastInDim S8x8192x2 ![0, 1, 2] bcast_S8x8192x1_S8x8192x2_0_1_2
    (broadcastInDim S8x8192x1 ![0, 1] bcast_S8x8192_S8x8192x1_0_1
      (Host.reduceAdd v (constant S_ .f32 0x00000000#32) reducesTo_S8x8192x2_S8x8192_d2 h_S_)))

/-- The gates. -/
def GATES (o : FVec Ideal S8x8192x2x8 .f32) (v : FVec Ideal S8x8192x2 .f32) : FVec Ideal S8x8192x8 .f32 :=
  Host.reduceAdd (mulf o (broadcastInDim S8x8192x2x8 ![0, 1, 2, 3] bcast_S8x8192x2x1_S8x8192x2x8_0_1_2_3
    (broadcastInDim S8x8192x2x1 ![0, 1, 2] bcast_S8x8192x2_S8x8192x2x1_0_1_2 v)))
    (constant S_ .f32 0x00000000#32) reducesTo_S8x8192x2x8_S8x8192x8_d2 h_S_

/-- The sigmoid-weighted unit. -/
def SILU (a : FVec Ideal S8x8192x1408 .f32) : FVec Ideal S8x8192x1408 .f32 :=
  mulf a (Host.divf (broadcastInDim S8x8192x1408 ![] bcast_S_S8x8192x1408 (constant S_ .f32 0x3F800000#32))
    (addf (broadcastInDim S8x8192x1408 ![] bcast_S_S8x8192x1408 (constant S_ .f32 0x3F800000#32)) (Host.exp (Host.negf a))))

/-- One expert's answers, gated by a column. -/
def PART (q : FVec Ideal S8x8192x1 .f32) (h : FVec Ideal S8x8192x1024 .f32) (wg wu : FVec Ideal S1x1024x1408 .f32)
    (wd : FVec Ideal S1x1408x1024 .f32) : FVec Ideal S8x8192x1024 .f32 :=
  mulf (broadcastInDim S8x8192x1024 ![0, 1, 2] bcast_S8x8192x1_S8x8192x1024_0_1_2 q)
    (Host.dotGeneral dot_S8x8192x1408_S1408x1024_S8x8192x1024_2_0_01_1_n_n none
      (mulf (SILU (Host.dotGeneral dot_S8x8192x1024_S1024x1408_S8x8192x1408_2_0_01_1_n_n none h
          (shapeCast S1024x1408 wg shapeCasts_S1x1024x1408_S1024x1408)))
        (Host.dotGeneral dot_S8x8192x1024_S1024x1408_S8x8192x1408_2_0_01_1_n_n none h
          (shapeCast S1024x1408 wu shapeCasts_S1x1024x1408_S1024x1408)))
      (shapeCast S1408x1024 wd shapeCasts_S1x1408x1024_S1408x1024))

/-! ## At an index -/

theorem MIX_apply (x : FVec Ideal S8x8192x1024 .f32) (yc at' : FVec Ideal S8x8192x512 .bf16) (w : FVec Ideal S1024x1024 .f32)
    (b : Fin 8) (t : Fin 8192) (j : Fin 1024) :
    MIX x yc at' w (ix3 b t j) = Rows.mix (fun j => x (ix3 b t j)) (fun k => yc (ix3 b t k)) (fun k => at' (ix3 b t k))
      (fun k j => w (ix2 ⟨k.val, by omega⟩ j)) (fun k j => w (ix2 ⟨512 + k.val, by omega⟩ j)) j := by
  pointwise [MIX, Rows.mix]
  rw [add_assoc]

theorem NORM_apply (u : FVec Ideal S8x8192x1024 .f32) (g : FVec Ideal S1024 .f32) (b : Fin 8) (t : Fin 8192) (j : Fin 1024) :
    NORM u g (ix3 b t j) = Rows.norm (fun j => u (ix3 b t j)) (fun j => g (ix1 j)) j := by
  pointwise [NORM, Rows.norm]

theorem LOGITS_apply (h : FVec Ideal S8x8192x1024 .f32) (r : FVec Ideal S1024x8 .f32) (b : Fin 8) (t : Fin 8192) (e : Fin 8) :
    LOGITS h r (ix3 b t e) = logit (fun k => h (ix3 b t k)) (fun k e => r (ix2 k e)) e := by
  pointwise [LOGITS, logit]

theorem RAISED_apply (z : FVec Ideal S8x8192x8 .f32) (b : Fin 8) (t : Fin 8192) (e : Fin 8) :
    RAISED z (ix3 b t e) = Ideal.exp (z (ix3 b t e) - peak fun k => z (ix3 b t k)) := by
  pointwise [RAISED]
  rw [bot_word, max_eq_right bot_le]
  rfl

theorem SOFT_apply (q : FVec Ideal S8x8192x8 .f32) (b : Fin 8) (t : Fin 8192) (e : Fin 8) :
    SOFT q (ix3 b t e) = Ideal.div (q (ix3 b t e)) (∑ k, q (ix3 b t k)) := by
  pointwise [SOFT]

theorem gt_apply (x y : EReal) : (FloatOps.cmpfTotal (F := Ideal) (φ := .f32) .gt x y == 1#1) = decide (y < x) := by
  show (BitVec.ofBool (decide (y < x)) == 1#1) = decide (y < x)
  by_cases h : y < x <;> simp [h]

/-- The last coordinate replaced. -/
theorem along_ix3 (b : Fin 8) (t : Fin 8192) (k l : Fin 8) : (ix3 b t k : S8x8192x8.Idx).along 2 l = ix3 b t l := by
  funext a
  unfold Shape.Idx.along
  fin_cases a <;> rfl

/-- The places of a row in falling order, as the sort finds them. -/
theorem order_apply (p : FVec Ideal S8x8192x8 .f32) (b : Fin 8) (t : Fin 8192) (k : Fin 8) :
    sortedFrom (fun a a' : Fin 8 => FloatOps.cmpfTotal (F := Ideal) (φ := .f32) .gt (p ((ix3 b t k : S8x8192x8.Idx).along 2 a))
      (p ((ix3 b t k : S8x8192x8.Idx).along 2 a')) == 1#1) = sortedFrom (earlier fun e => p (ix3 b t e)) := by
  refine sort_strict (fun e => p (ix3 b t e)) _ fun a a' => ?_
  refine (gt_apply _ _).trans ?_
  rw [along_ix3, along_ix3]

theorem BEST_apply (p : FVec Ideal S8x8192x8 .f32) (b : Fin 8) (t : Fin 8192) (k : Fin 2) :
    BEST p (ix3 b t k) = p (ix3 b t (sortedFrom (earlier fun e => p (ix3 b t e)) ⟨k.val, by omega⟩)) := by
  unfold BEST Host.topK
  pointwise [Host.sort2]
  rw [← order_apply p b t ⟨k.val, by omega⟩]
  exact congrArg p (along_ix3 b t _ _)

theorem PLACE_apply (p : FVec Ideal S8x8192x8 .f32) (b : Fin 8) (t : Fin 8192) (k : Fin 2) :
    PLACE p (ix3 b t k) = BitVec.ofNat 32 (sortedFrom (earlier fun e => p (ix3 b t e)) ⟨k.val, by omega⟩).val := by
  unfold PLACE Host.topK
  pointwise [Host.sort2]
  rw [← order_apply p b t ⟨k.val, by omega⟩]
  exact congrArg (fun i : S8x8192x8.Idx => BitVec.ofNat 32 (i 2).val) (along_ix3 b t _ _)

theorem word_inj (a e : Fin 8) : BitVec.ofNat 32 a.val = BitVec.ofNat 32 e.val ↔ e = a := by
  revert a e; decide

theorem HOT_apply (n : IVec S8x8192x2 32) (b : Fin 8) (t : Fin 8192) (k : Fin 2) (e : Fin 8) (a : Fin 8)
    (ha : n (ix3 b t k) = BitVec.ofNat 32 a.val) : HOT n (ix4 b t k e) = if e = a then 1 else 0 := by
  pointwise [HOT]
  rw [ha]
  by_cases h : e = a
  · rw [if_pos h, (word_inj a e).mpr h]
    show ((((IntOp.cmpi CmpIPredicate.eq (BitVec.ofNat 32 e.val) (BitVec.ofNat 32 e.val)).toNat : ℝ)) : EReal) = 1
    simp [IntOp.cmpi]
  · rw [if_neg h]
    have hn : (BitVec.ofNat 32 a.val == BitVec.ofNat 32 e.val) = false := by
      rw [beq_eq_false_iff_ne]; exact fun hh => h ((word_inj a e).mp hh)
    show ((((IntOp.cmpi CmpIPredicate.eq (BitVec.ofNat 32 a.val) (BitVec.ofNat 32 e.val)).toNat : ℝ)) : EReal) = 0
    simp [IntOp.cmpi, hn]

theorem SHARES_apply (v : FVec Ideal S8x8192x2 .f32) (b : Fin 8) (t : Fin 8192) (k : Fin 2) :
    SHARES v (ix3 b t k) = Ideal.div (v (ix3 b t k)) (v (ix3 b t 0) + v (ix3 b t 1)) := by
  pointwise [SHARES]
  rw [Fin.sum_univ_two]

theorem GATES_apply (o : FVec Ideal S8x8192x2x8 .f32) (v : FVec Ideal S8x8192x2 .f32) (b : Fin 8) (t : Fin 8192) (e : Fin 8) :
    GATES o v (ix3 b t e) = o (ix4 b t 0 e) * v (ix3 b t 0) + o (ix4 b t 1 e) * v (ix3 b t 1) := by
  pointwise [GATES]
  rw [Fin.sum_univ_two]

/-- The gates of a table of probabilities. -/
def ROUTE (p : FVec Ideal S8x8192x8 .f32) : FVec Ideal S8x8192x8 .f32 := GATES (HOT (PLACE p)) (SHARES (BEST p))

theorem ROUTE_apply (p : FVec Ideal S8x8192x8 .f32) (b : Fin 8) (t : Fin 8192) (e : Fin 8) :
    ROUTE p (ix3 b t e) = gate (fun e => p (ix3 b t e)) e := by
  unfold ROUTE
  rw [GATES_apply, HOT_apply _ b t 0 e (top1 fun e => p (ix3 b t e)) (PLACE_apply p b t 0),
    HOT_apply _ b t 1 e (top2 fun e => p (ix3 b t e)) (PLACE_apply p b t 1), SHARES_apply, SHARES_apply, BEST_apply, BEST_apply]
  show (if e = top1 fun e => p (ix3 b t e) then (1 : EReal) else 0)
      * Ideal.div (p (ix3 b t (top1 fun e => p (ix3 b t e)))) (p (ix3 b t (top1 fun e => p (ix3 b t e))) + p (ix3 b t (top2 fun e => p (ix3 b t e))))
    + (if e = top2 fun e => p (ix3 b t e) then (1 : EReal) else 0)
      * Ideal.div (p (ix3 b t (top2 fun e => p (ix3 b t e)))) (p (ix3 b t (top1 fun e => p (ix3 b t e))) + p (ix3 b t (top2 fun e => p (ix3 b t e))))
    = gate (fun e => p (ix3 b t e)) e
  unfold gate
  by_cases h1 : e = top1 fun e => p (ix3 b t e)
  · have h2 : ¬e = top2 fun e => p (ix3 b t e) := fun h2 => top_ne _ (h2.symm.trans h1)
    rw [if_pos h1, if_neg h2, if_pos h1, one_mul, zero_mul, add_zero]
  · by_cases h2 : e = top2 fun e => p (ix3 b t e)
    · rw [if_neg h1, if_pos h2, if_neg h1, if_pos h2, one_mul, zero_mul, zero_add]
    · rw [if_neg h1, if_neg h2, if_neg h1, if_neg h2, zero_mul, zero_mul, zero_add]

/-- The softmax of the router's logits. -/
def ODDS (h : FVec Ideal S8x8192x1024 .f32) (r : FVec Ideal S1024x8 .f32) : FVec Ideal S8x8192x8 .f32 := SOFT (RAISED (LOGITS h r))

theorem ODDS_apply (h : FVec Ideal S8x8192x1024 .f32) (r : FVec Ideal S1024x8 .f32) (b : Fin 8) (t : Fin 8192) (e : Fin 8) :
    ODDS h r (ix3 b t e) = prob (logit (fun k => h (ix3 b t k)) fun k e => r (ix2 k e)) e := by
  unfold ODDS prob
  rw [SOFT_apply]
  simp only [RAISED_apply, LOGITS_apply]

theorem PART_apply (q : FVec Ideal S8x8192x1 .f32) (h : FVec Ideal S8x8192x1024 .f32) (wg wu : FVec Ideal S1x1024x1408 .f32)
    (wd : FVec Ideal S1x1408x1024 .f32) (b : Fin 8) (t : Fin 8192) (j : Fin 1024) :
    PART q h wg wu wd (ix3 b t j) = q (ix3 b t 0) * Rows.swiglu (fun j => h (ix3 b t j)) (fun k f => wg (ix3 0 k f))
      (fun k f => wu (ix3 0 k f)) (fun f j => wd (ix3 0 f j)) j := by
  pointwise [PART, SILU, Rows.swiglu, Rows.silu]

end Cert.ReferenceIdeal.Moe

end
-- ==== Proof.Moe.Layer.lean ====
/- The routed reference's eight gated answers, added up one after another, and its whole result at an index. -/
module

public import proofs.«01_k».proof.Proof.Moe.Reference

@[expose] public section

set_option maxRecDepth 16384

noncomputable section

namespace Cert.ReferenceIdeal.Moe

open Idealize.ShloMosaic Idealize.ShloMosaic.TcCoe Idealize.SL.Sem
open Cert.ReferenceIdeal Cert.ReferenceIdeal.Gen Cert.Rows

/-! The answers so far: expert zero's on zeros, then each next one's added. -/

def SUM0 (h : FVec Ideal S8x8192x1024 .f32) (G : FVec Ideal S8x8192x8 .f32) (wg wu : FVec Ideal S8x1024x1408 .f32)
    (wd : FVec Ideal S8x1408x1024 .f32) : FVec Ideal S8x8192x1024 .f32 :=
  addf (broadcastInDim S8x8192x1024 ![] bcast_S_S8x8192x1024 (constant S_ .f32 0x00000000#32))
    (PART (extractStridedSlice S8x8192x1 ![0, 0, 0] G slices_S8x8192x8_S8x8192x1_0_0_0) h
    (extractStridedSlice S1x1024x1408 ![0, 0, 0] wg slices_S8x1024x1408_S1x1024x1408_0_0_0)
    (extractStridedSlice S1x1024x1408 ![0, 0, 0] wu slices_S8x1024x1408_S1x1024x1408_0_0_0)
    (extractStridedSlice S1x1408x1024 ![0, 0, 0] wd slices_S8x1408x1024_S1x1408x1024_0_0_0))
def SUM1 (h : FVec Ideal S8x8192x1024 .f32) (G : FVec Ideal S8x8192x8 .f32) (wg wu : FVec Ideal S8x1024x1408 .f32)
    (wd : FVec Ideal S8x1408x1024 .f32) : FVec Ideal S8x8192x1024 .f32 :=
  addf (SUM0 h G wg wu wd)
    (PART (extractStridedSlice S8x8192x1 ![0, 0, 1] G slices_S8x8192x8_S8x8192x1_0_0_1) h
    (extractStridedSlice S1x1024x1408 ![1, 0, 0] wg slices_S8x1024x1408_S1x1024x1408_1_0_0)
    (extractStridedSlice S1x1024x1408 ![1, 0, 0] wu slices_S8x1024x1408_S1x1024x1408_1_0_0)
    (extractStridedSlice S1x1408x1024 ![1, 0, 0] wd slices_S8x1408x1024_S1x1408x1024_1_0_0))
def SUM2 (h : FVec Ideal S8x8192x1024 .f32) (G : FVec Ideal S8x8192x8 .f32) (wg wu : FVec Ideal S8x1024x1408 .f32)
    (wd : FVec Ideal S8x1408x1024 .f32) : FVec Ideal S8x8192x1024 .f32 :=
  addf (SUM1 h G wg wu wd)
    (PART (extractStridedSlice S8x8192x1 ![0, 0, 2] G slices_S8x8192x8_S8x8192x1_0_0_2) h
    (extractStridedSlice S1x1024x1408 ![2, 0, 0] wg slices_S8x1024x1408_S1x1024x1408_2_0_0)
    (extractStridedSlice S1x1024x1408 ![2, 0, 0] wu slices_S8x1024x1408_S1x1024x1408_2_0_0)
    (extractStridedSlice S1x1408x1024 ![2, 0, 0] wd slices_S8x1408x1024_S1x1408x1024_2_0_0))
def SUM3 (h : FVec Ideal S8x8192x1024 .f32) (G : FVec Ideal S8x8192x8 .f32) (wg wu : FVec Ideal S8x1024x1408 .f32)
    (wd : FVec Ideal S8x1408x1024 .f32) : FVec Ideal S8x8192x1024 .f32 :=
  addf (SUM2 h G wg wu wd)
    (PART (extractStridedSlice S8x8192x1 ![0, 0, 3] G slices_S8x8192x8_S8x8192x1_0_0_3) h
    (extractStridedSlice S1x1024x1408 ![3, 0, 0] wg slices_S8x1024x1408_S1x1024x1408_3_0_0)
    (extractStridedSlice S1x1024x1408 ![3, 0, 0] wu slices_S8x1024x1408_S1x1024x1408_3_0_0)
    (extractStridedSlice S1x1408x1024 ![3, 0, 0] wd slices_S8x1408x1024_S1x1408x1024_3_0_0))
def SUM4 (h : FVec Ideal S8x8192x1024 .f32) (G : FVec Ideal S8x8192x8 .f32) (wg wu : FVec Ideal S8x1024x1408 .f32)
    (wd : FVec Ideal S8x1408x1024 .f32) : FVec Ideal S8x8192x1024 .f32 :=
  addf (SUM3 h G wg wu wd)
    (PART (extractStridedSlice S8x8192x1 ![0, 0, 4] G slices_S8x8192x8_S8x8192x1_0_0_4) h
    (extractStridedSlice S1x1024x1408 ![4, 0, 0] wg slices_S8x1024x1408_S1x1024x1408_4_0_0)
    (extractStridedSlice S1x1024x1408 ![4, 0, 0] wu slices_S8x1024x1408_S1x1024x1408_4_0_0)
    (extractStridedSlice S1x1408x1024 ![4, 0, 0] wd slices_S8x1408x1024_S1x1408x1024_4_0_0))
def SUM5 (h : FVec Ideal S8x8192x1024 .f32) (G : FVec Ideal S8x8192x8 .f32) (wg wu : FVec Ideal S8x1024x1408 .f32)
    (wd : FVec Ideal S8x1408x1024 .f32) : FVec Ideal S8x8192x1024 .f32 :=
  addf (SUM4 h G wg wu wd)
    (PART (extractStridedSlice S8x8192x1 ![0, 0, 5] G slices_S8x8192x8_S8x8192x1_0_0_5) h
    (extractStridedSlice S1x1024x1408 ![5, 0, 0] wg slices_S8x1024x1408_S1x1024x1408_5_0_0)
    (extractStridedSlice S1x1024x1408 ![5, 0, 0] wu slices_S8x1024x1408_S1x1024x1408_5_0_0)
    (extractStridedSlice S1x1408x1024 ![5, 0, 0] wd slices_S8x1408x1024_S1x1408x1024_5_0_0))
def SUM6 (h : FVec Ideal S8x8192x1024 .f32) (G : FVec Ideal S8x8192x8 .f32) (wg wu : FVec Ideal S8x1024x1408 .f32)
    (wd : FVec Ideal S8x1408x1024 .f32) : FVec Ideal S8x8192x1024 .f32 :=
  addf (SUM5 h G wg wu wd)
    (PART (extractStridedSlice S8x8192x1 ![0, 0, 6] G slices_S8x8192x8_S8x8192x1_0_0_6) h
    (extractStridedSlice S1x1024x1408 ![6, 0, 0] wg slices_S8x1024x1408_S1x1024x1408_6_0_0)
    (extractStridedSlice S1x1024x1408 ![6, 0, 0] wu slices_S8x1024x1408_S1x1024x1408_6_0_0)
    (extractStridedSlice S1x1408x1024 ![6, 0, 0] wd slices_S8x1408x1024_S1x1408x1024_6_0_0))
def SUM7 (h : FVec Ideal S8x8192x1024 .f32) (G : FVec Ideal S8x8192x8 .f32) (wg wu : FVec Ideal S8x1024x1408 .f32)
    (wd : FVec Ideal S8x1408x1024 .f32) : FVec Ideal S8x8192x1024 .f32 :=
  addf (SUM6 h G wg wu wd)
    (PART (extractStridedSlice S8x8192x1 ![0, 0, 7] G slices_S8x8192x8_S8x8192x1_0_0_7) h
    (extractStridedSlice S1x1024x1408 ![7, 0, 0] wg slices_S8x1024x1408_S1x1024x1408_7_0_0)
    (extractStridedSlice S1x1024x1408 ![7, 0, 0] wu slices_S8x1024x1408_S1x1024x1408_7_0_0)
    (extractStridedSlice S1x1408x1024 ![7, 0, 0] wd slices_S8x1408x1024_S1x1408x1024_7_0_0))

/-! A slice of the stacked weights is one expert's. -/

theorem slice_g0 (w : FVec Ideal S8x1024x1408 .f32) (k : Fin 1024) (f : Fin 1408) :
    extractStridedSlice S1x1024x1408 ![0, 0, 0] w slices_S8x1024x1408_S1x1024x1408_0_0_0 (ix3 0 k f) = w (ix3 0 k f) := by pointwise
theorem slice_d0 (w : FVec Ideal S8x1408x1024 .f32) (f : Fin 1408) (j : Fin 1024) :
    extractStridedSlice S1x1408x1024 ![0, 0, 0] w slices_S8x1408x1024_S1x1408x1024_0_0_0 (ix3 0 f j) = w (ix3 0 f j) := by pointwise
theorem slice_g1 (w : FVec Ideal S8x1024x1408 .f32) (k : Fin 1024) (f : Fin 1408) :
    extractStridedSlice S1x1024x1408 ![1, 0, 0] w slices_S8x1024x1408_S1x1024x1408_1_0_0 (ix3 0 k f) = w (ix3 1 k f) := by pointwise
theorem slice_d1 (w : FVec Ideal S8x1408x1024 .f32) (f : Fin 1408) (j : Fin 1024) :
    extractStridedSlice S1x1408x1024 ![1, 0, 0] w slices_S8x1408x1024_S1x1408x1024_1_0_0 (ix3 0 f j) = w (ix3 1 f j) := by pointwise
theorem slice_g2 (w : FVec Ideal S8x1024x1408 .f32) (k : Fin 1024) (f : Fin 1408) :
    extractStridedSlice S1x1024x1408 ![2, 0, 0] w slices_S8x1024x1408_S1x1024x1408_2_0_0 (ix3 0 k f) = w (ix3 2 k f) := by pointwise
theorem slice_d2 (w : FVec Ideal S8x1408x1024 .f32) (f : Fin 1408) (j : Fin 1024) :
    extractStridedSlice S1x1408x1024 ![2, 0, 0] w slices_S8x1408x1024_S1x1408x1024_2_0_0 (ix3 0 f j) = w (ix3 2 f j) := by pointwise
theorem slice_g3 (w : FVec Ideal S8x1024x1408 .f32) (k : Fin 1024) (f : Fin 1408) :
    extractStridedSlice S1x1024x1408 ![3, 0, 0] w slices_S8x1024x1408_S1x1024x1408_3_0_0 (ix3 0 k f) = w (ix3 3 k f) := by pointwise
theorem slice_d3 (w : FVec Ideal S8x1408x1024 .f32) (f : Fin 1408) (j : Fin 1024) :
    extractStridedSlice S1x1408x1024 ![3, 0, 0] w slices_S8x1408x1024_S1x1408x1024_3_0_0 (ix3 0 f j) = w (ix3 3 f j) := by pointwise
theorem slice_g4 (w : FVec Ideal S8x1024x1408 .f32) (k : Fin 1024) (f : Fin 1408) :
    extractStridedSlice S1x1024x1408 ![4, 0, 0] w slices_S8x1024x1408_S1x1024x1408_4_0_0 (ix3 0 k f) = w (ix3 4 k f) := by pointwise
theorem slice_d4 (w : FVec Ideal S8x1408x1024 .f32) (f : Fin 1408) (j : Fin 1024) :
    extractStridedSlice S1x1408x1024 ![4, 0, 0] w slices_S8x1408x1024_S1x1408x1024_4_0_0 (ix3 0 f j) = w (ix3 4 f j) := by pointwise
theorem slice_g5 (w : FVec Ideal S8x1024x1408 .f32) (k : Fin 1024) (f : Fin 1408) :
    extractStridedSlice S1x1024x1408 ![5, 0, 0] w slices_S8x1024x1408_S1x1024x1408_5_0_0 (ix3 0 k f) = w (ix3 5 k f) := by pointwise
theorem slice_d5 (w : FVec Ideal S8x1408x1024 .f32) (f : Fin 1408) (j : Fin 1024) :
    extractStridedSlice S1x1408x1024 ![5, 0, 0] w slices_S8x1408x1024_S1x1408x1024_5_0_0 (ix3 0 f j) = w (ix3 5 f j) := by pointwise
theorem slice_g6 (w : FVec Ideal S8x1024x1408 .f32) (k : Fin 1024) (f : Fin 1408) :
    extractStridedSlice S1x1024x1408 ![6, 0, 0] w slices_S8x1024x1408_S1x1024x1408_6_0_0 (ix3 0 k f) = w (ix3 6 k f) := by pointwise
theorem slice_d6 (w : FVec Ideal S8x1408x1024 .f32) (f : Fin 1408) (j : Fin 1024) :
    extractStridedSlice S1x1408x1024 ![6, 0, 0] w slices_S8x1408x1024_S1x1408x1024_6_0_0 (ix3 0 f j) = w (ix3 6 f j) := by pointwise
theorem slice_g7 (w : FVec Ideal S8x1024x1408 .f32) (k : Fin 1024) (f : Fin 1408) :
    extractStridedSlice S1x1024x1408 ![7, 0, 0] w slices_S8x1024x1408_S1x1024x1408_7_0_0 (ix3 0 k f) = w (ix3 7 k f) := by pointwise
theorem slice_d7 (w : FVec Ideal S8x1408x1024 .f32) (f : Fin 1408) (j : Fin 1024) :
    extractStridedSlice S1x1408x1024 ![7, 0, 0] w slices_S8x1408x1024_S1x1408x1024_7_0_0 (ix3 0 f j) = w (ix3 7 f j) := by pointwise

/-! Each expert's part at an index. -/

theorem part0_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    (PART (extractStridedSlice S8x8192x1 ![0, 0, 0] G slices_S8x8192x8_S8x8192x1_0_0_0) h
    (extractStridedSlice S1x1024x1408 ![0, 0, 0] wg slices_S8x1024x1408_S1x1024x1408_0_0_0)
    (extractStridedSlice S1x1024x1408 ![0, 0, 0] wu slices_S8x1024x1408_S1x1024x1408_0_0_0)
    (extractStridedSlice S1x1408x1024 ![0, 0, 0] wd slices_S8x1408x1024_S1x1408x1024_0_0_0)) (ix3 b t j)
      = G (ix3 b t 0) * Rows.swiglu (fun j => h (ix3 b t j)) (fun k f => wg (ix3 0 k f)) (fun k f => wu (ix3 0 k f)) (fun f j => wd (ix3 0 f j)) j := by
  rw [PART_apply]
  congr 1
  · pointwise
  · simp only [slice_g0, slice_d0]
theorem part1_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    (PART (extractStridedSlice S8x8192x1 ![0, 0, 1] G slices_S8x8192x8_S8x8192x1_0_0_1) h
    (extractStridedSlice S1x1024x1408 ![1, 0, 0] wg slices_S8x1024x1408_S1x1024x1408_1_0_0)
    (extractStridedSlice S1x1024x1408 ![1, 0, 0] wu slices_S8x1024x1408_S1x1024x1408_1_0_0)
    (extractStridedSlice S1x1408x1024 ![1, 0, 0] wd slices_S8x1408x1024_S1x1408x1024_1_0_0)) (ix3 b t j)
      = G (ix3 b t 1) * Rows.swiglu (fun j => h (ix3 b t j)) (fun k f => wg (ix3 1 k f)) (fun k f => wu (ix3 1 k f)) (fun f j => wd (ix3 1 f j)) j := by
  rw [PART_apply]
  congr 1
  · pointwise
  · simp only [slice_g1, slice_d1]
theorem part2_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    (PART (extractStridedSlice S8x8192x1 ![0, 0, 2] G slices_S8x8192x8_S8x8192x1_0_0_2) h
    (extractStridedSlice S1x1024x1408 ![2, 0, 0] wg slices_S8x1024x1408_S1x1024x1408_2_0_0)
    (extractStridedSlice S1x1024x1408 ![2, 0, 0] wu slices_S8x1024x1408_S1x1024x1408_2_0_0)
    (extractStridedSlice S1x1408x1024 ![2, 0, 0] wd slices_S8x1408x1024_S1x1408x1024_2_0_0)) (ix3 b t j)
      = G (ix3 b t 2) * Rows.swiglu (fun j => h (ix3 b t j)) (fun k f => wg (ix3 2 k f)) (fun k f => wu (ix3 2 k f)) (fun f j => wd (ix3 2 f j)) j := by
  rw [PART_apply]
  congr 1
  · pointwise
  · simp only [slice_g2, slice_d2]
theorem part3_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    (PART (extractStridedSlice S8x8192x1 ![0, 0, 3] G slices_S8x8192x8_S8x8192x1_0_0_3) h
    (extractStridedSlice S1x1024x1408 ![3, 0, 0] wg slices_S8x1024x1408_S1x1024x1408_3_0_0)
    (extractStridedSlice S1x1024x1408 ![3, 0, 0] wu slices_S8x1024x1408_S1x1024x1408_3_0_0)
    (extractStridedSlice S1x1408x1024 ![3, 0, 0] wd slices_S8x1408x1024_S1x1408x1024_3_0_0)) (ix3 b t j)
      = G (ix3 b t 3) * Rows.swiglu (fun j => h (ix3 b t j)) (fun k f => wg (ix3 3 k f)) (fun k f => wu (ix3 3 k f)) (fun f j => wd (ix3 3 f j)) j := by
  rw [PART_apply]
  congr 1
  · pointwise
  · simp only [slice_g3, slice_d3]
theorem part4_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    (PART (extractStridedSlice S8x8192x1 ![0, 0, 4] G slices_S8x8192x8_S8x8192x1_0_0_4) h
    (extractStridedSlice S1x1024x1408 ![4, 0, 0] wg slices_S8x1024x1408_S1x1024x1408_4_0_0)
    (extractStridedSlice S1x1024x1408 ![4, 0, 0] wu slices_S8x1024x1408_S1x1024x1408_4_0_0)
    (extractStridedSlice S1x1408x1024 ![4, 0, 0] wd slices_S8x1408x1024_S1x1408x1024_4_0_0)) (ix3 b t j)
      = G (ix3 b t 4) * Rows.swiglu (fun j => h (ix3 b t j)) (fun k f => wg (ix3 4 k f)) (fun k f => wu (ix3 4 k f)) (fun f j => wd (ix3 4 f j)) j := by
  rw [PART_apply]
  congr 1
  · pointwise
  · simp only [slice_g4, slice_d4]
theorem part5_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    (PART (extractStridedSlice S8x8192x1 ![0, 0, 5] G slices_S8x8192x8_S8x8192x1_0_0_5) h
    (extractStridedSlice S1x1024x1408 ![5, 0, 0] wg slices_S8x1024x1408_S1x1024x1408_5_0_0)
    (extractStridedSlice S1x1024x1408 ![5, 0, 0] wu slices_S8x1024x1408_S1x1024x1408_5_0_0)
    (extractStridedSlice S1x1408x1024 ![5, 0, 0] wd slices_S8x1408x1024_S1x1408x1024_5_0_0)) (ix3 b t j)
      = G (ix3 b t 5) * Rows.swiglu (fun j => h (ix3 b t j)) (fun k f => wg (ix3 5 k f)) (fun k f => wu (ix3 5 k f)) (fun f j => wd (ix3 5 f j)) j := by
  rw [PART_apply]
  congr 1
  · pointwise
  · simp only [slice_g5, slice_d5]
theorem part6_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    (PART (extractStridedSlice S8x8192x1 ![0, 0, 6] G slices_S8x8192x8_S8x8192x1_0_0_6) h
    (extractStridedSlice S1x1024x1408 ![6, 0, 0] wg slices_S8x1024x1408_S1x1024x1408_6_0_0)
    (extractStridedSlice S1x1024x1408 ![6, 0, 0] wu slices_S8x1024x1408_S1x1024x1408_6_0_0)
    (extractStridedSlice S1x1408x1024 ![6, 0, 0] wd slices_S8x1408x1024_S1x1408x1024_6_0_0)) (ix3 b t j)
      = G (ix3 b t 6) * Rows.swiglu (fun j => h (ix3 b t j)) (fun k f => wg (ix3 6 k f)) (fun k f => wu (ix3 6 k f)) (fun f j => wd (ix3 6 f j)) j := by
  rw [PART_apply]
  congr 1
  · pointwise
  · simp only [slice_g6, slice_d6]
theorem part7_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    (PART (extractStridedSlice S8x8192x1 ![0, 0, 7] G slices_S8x8192x8_S8x8192x1_0_0_7) h
    (extractStridedSlice S1x1024x1408 ![7, 0, 0] wg slices_S8x1024x1408_S1x1024x1408_7_0_0)
    (extractStridedSlice S1x1024x1408 ![7, 0, 0] wu slices_S8x1024x1408_S1x1024x1408_7_0_0)
    (extractStridedSlice S1x1408x1024 ![7, 0, 0] wd slices_S8x1408x1024_S1x1408x1024_7_0_0)) (ix3 b t j)
      = G (ix3 b t 7) * Rows.swiglu (fun j => h (ix3 b t j)) (fun k f => wg (ix3 7 k f)) (fun k f => wu (ix3 7 k f)) (fun f j => wd (ix3 7 f j)) j := by
  rw [PART_apply]
  congr 1
  · pointwise
  · simp only [slice_g7, slice_d7]

theorem add_at (x y : FVec Ideal S8x8192x1024 .f32) (i : S8x8192x1024.Idx) : addf x y i = (x i : EReal) + y i := rfl

theorem SUM_apply (h : FVec Ideal S8x8192x1024 .f32) (G : FVec Ideal S8x8192x8 .f32) (wg wu : FVec Ideal S8x1024x1408 .f32)
    (wd : FVec Ideal S8x1408x1024 .f32) (b : Fin 8) (t : Fin 8192) (j : Fin 1024) :
    SUM7 h G wg wu wd (ix3 b t j) = ∑ e : Fin 8, G (ix3 b t e) * Rows.swiglu (fun j => h (ix3 b t j)) (fun k f => wg (ix3 e k f))
      (fun k f => wu (ix3 e k f)) (fun f j => wd (ix3 e f j)) j := by
  rw [Fin.sum_univ_eight]
  rw [← part0_apply, ← part1_apply, ← part2_apply, ← part3_apply, ← part4_apply, ← part5_apply, ← part6_apply, ← part7_apply]
  have h0 : (broadcastInDim S8x8192x1024 ![] bcast_S_S8x8192x1024 (constant (F := Ideal) S_ .f32 0x00000000#32)) (ix3 b t j) = (0 : EReal) := by
    pointwise
  unfold SUM7 SUM6 SUM5 SUM4 SUM3 SUM2 SUM1 SUM0
  simp only [add_at, h0]
  rw [zero_add]

/-- The reference's result before its rows are laid in one column. -/
def LAYER (x : FVec Ideal S8x8192x1024 .f32) (yc at' : FVec Ideal S8x8192x512 .bf16) (w : FVec Ideal S1024x1024 .f32)
    (g : FVec Ideal S1024 .f32) (r : FVec Ideal S1024x8 .f32) (wg wu : FVec Ideal S8x1024x1408 .f32) (wd : FVec Ideal S8x1408x1024 .f32) :
    FVec Ideal S8x8192x1024 .f32 :=
  addf (MIX x yc at' w)
    (SUM7 (NORM (MIX x yc at' w) g) (ROUTE (ODDS (NORM (MIX x yc at' w) g) r)) wg wu wd)

end Cert.ReferenceIdeal.Moe

end
-- ==== Proof.Moe.Stages.lean ====
/- The routed reference's host line, run stage by stage: the stream and its norm, the router's odds, the gates, the eight experts'
   answers added one after the other. -/
module

public import proofs.«01_k».proof.Proof.Moe.Layer
public import Idealize.ShloMosaic.Lib.Claim

@[expose] public section

set_option maxRecDepth 16384

noncomputable section

namespace Cert.ReferenceIdeal.Moe

open Idealize.ShloMosaic Idealize.ShloMosaic.TcCoe Idealize.SL.Sem Idealize.ShloMosaic.StableHlo
open Cert.ReferenceIdeal Cert.ReferenceIdeal.Gen Cert.Rows

/-- The host line's operations, read off the program. -/
def line : { L : List (HloOp τ sig (Elt Ideal)) // ∀ d, IsSeq (main (F := Ideal) d) L } := by
  apply Subtype.mk
  hlo_seq

/-- The operations `k … k + n - 1` of the line. -/
def stage (k n : ℕ) : List (HloOp τ sig (Elt Ideal)) := (line.1.drop k).take n

/-- The rest of the line runs as the next stage and then what is left. -/
theorem cut (k n k' : ℕ) (h : k + n = k') (V : Valuation τ sig (Elt Ideal)) :
    after (line.1.drop k) V = after (line.1.drop k') (after (stage k n) V) := by
  have app : ∀ (a b : List (HloOp τ sig (Elt Ideal))) (V : Valuation τ sig (Elt Ideal)), after (a ++ b) V = after b (after a V) := by
    intro a
    induction a with
    | nil => intro b V; rfl
    | cons o a ih => intro b V; exact ih b _
  subst h
  rw [← app, stage, ← List.drop_drop, List.take_append_drop]

/-- Nothing is left at the end. -/
theorem cut_end (V : Valuation τ sig (Elt Ideal)) : after (line.1.drop 242) V = V := by
  simp only [line, List.drop_succ_cons, List.drop_zero, after_nil]

/-- The stream. -/
theorem stream_is (V : Valuation τ sig (Elt Ideal)) :
    after (stage 0 21) V (Proc.devRef .tc main_v4) = MIX (V (Proc.devRef .tc main_arg0)) (V (Proc.devRef .tc main_arg1)) (V (Proc.devRef .tc main_arg2)) (V (Proc.devRef .tc main_arg3)) := by
  simp only [stage, line, List.drop_zero, List.take_succ_cons, List.take_zero, List.drop_succ_cons]
  after_results_simp
  rfl

/-- Its norm. -/
theorem norm_is (V : Valuation τ sig (Elt Ideal)) :
    after (stage 0 21) V (Proc.devRef .tc main_v17) = NORM (MIX (V (Proc.devRef .tc main_arg0)) (V (Proc.devRef .tc main_arg1)) (V (Proc.devRef .tc main_arg2)) (V (Proc.devRef .tc main_arg3))) (V (Proc.devRef .tc main_arg4)) := by
  simp only [stage, line, List.drop_zero, List.take_succ_cons, List.take_zero, List.drop_succ_cons]
  after_results_simp
  rfl

/-- The router's odds. -/
theorem odds_are (V : Valuation τ sig (Elt Ideal)) :
    after (stage 21 15) V (Proc.devRef .tc main_v29) = ODDS (V (Proc.devRef .tc main_v17)) (V (Proc.devRef .tc main_arg5)) := by
  simp only [stage, line, List.drop_zero, List.take_succ_cons, List.take_zero, List.drop_succ_cons]
  after_results_simp
  rfl

/-- The gates. -/
theorem gates_are (V : Valuation τ sig (Elt Ideal)) :
    after (stage 36 18) V (Proc.devRef .tc main_v38) = ROUTE (V (Proc.devRef .tc main_v29)) := by
  simp only [stage, line, List.drop_zero, List.take_succ_cons, List.take_zero, List.drop_succ_cons]
  after_results_simp
  rfl

/-- Zeros to add to. -/
theorem zeros_are (V : Valuation τ sig (Elt Ideal)) :
    after (stage 54 2) V (Proc.devRef .tc main_v39) = (broadcastInDim S8x8192x1024 ![] bcast_S_S8x8192x1024 (constant S_ .f32 0x00000000#32) : FVec Ideal S8x8192x1024 .f32) := by
  simp only [stage, line, List.drop_zero, List.take_succ_cons, List.take_zero, List.drop_succ_cons]
  after_results_simp

/-- Expert 0's answers, added. -/
theorem expert0_is (V : Valuation τ sig (Elt Ideal)) :
    after (stage 56 23) V (Proc.devRef .tc main_v54) = addf (V (Proc.devRef .tc main_v39))
      (PART (extractStridedSlice S8x8192x1 ![0, 0, 0] (V (Proc.devRef .tc main_v38)) slices_S8x8192x8_S8x8192x1_0_0_0) (V (Proc.devRef .tc main_v17))
      (extractStridedSlice S1x1024x1408 ![0, 0, 0] (V (Proc.devRef .tc main_arg6)) slices_S8x1024x1408_S1x1024x1408_0_0_0)
      (extractStridedSlice S1x1024x1408 ![0, 0, 0] (V (Proc.devRef .tc main_arg7)) slices_S8x1024x1408_S1x1024x1408_0_0_0)
      (extractStridedSlice S1x1408x1024 ![0, 0, 0] (V (Proc.devRef .tc main_arg8)) slices_S8x1408x1024_S1x1408x1024_0_0_0)) := by
  simp only [stage, line, List.drop_zero, List.take_succ_cons, List.take_zero, List.drop_succ_cons]
  after_results_simp
  rfl

/-- Expert 1's answers, added. -/
theorem expert1_is (V : Valuation τ sig (Elt Ideal)) :
    after (stage 79 23) V (Proc.devRef .tc main_v69) = addf (V (Proc.devRef .tc main_v54))
      (PART (extractStridedSlice S8x8192x1 ![0, 0, 1] (V (Proc.devRef .tc main_v38)) slices_S8x8192x8_S8x8192x1_0_0_1) (V (Proc.devRef .tc main_v17))
      (extractStridedSlice S1x1024x1408 ![1, 0, 0] (V (Proc.devRef .tc main_arg6)) slices_S8x1024x1408_S1x1024x1408_1_0_0)
      (extractStridedSlice S1x1024x1408 ![1, 0, 0] (V (Proc.devRef .tc main_arg7)) slices_S8x1024x1408_S1x1024x1408_1_0_0)
      (extractStridedSlice S1x1408x1024 ![1, 0, 0] (V (Proc.devRef .tc main_arg8)) slices_S8x1408x1024_S1x1408x1024_1_0_0)) := by
  simp only [stage, line, List.drop_zero, List.take_succ_cons, List.take_zero, List.drop_succ_cons]
  after_results_simp
  rfl

/-- Expert 2's answers, added. -/
theorem expert2_is (V : Valuation τ sig (Elt Ideal)) :
    after (stage 102 23) V (Proc.devRef .tc main_v84) = addf (V (Proc.devRef .tc main_v69))
      (PART (extractStridedSlice S8x8192x1 ![0, 0, 2] (V (Proc.devRef .tc main_v38)) slices_S8x8192x8_S8x8192x1_0_0_2) (V (Proc.devRef .tc main_v17))
      (extractStridedSlice S1x1024x1408 ![2, 0, 0] (V (Proc.devRef .tc main_arg6)) slices_S8x1024x1408_S1x1024x1408_2_0_0)
      (extractStridedSlice S1x1024x1408 ![2, 0, 0] (V (Proc.devRef .tc main_arg7)) slices_S8x1024x1408_S1x1024x1408_2_0_0)
      (extractStridedSlice S1x1408x1024 ![2, 0, 0] (V (Proc.devRef .tc main_arg8)) slices_S8x1408x1024_S1x1408x1024_2_0_0)) := by
  simp only [stage, line, List.drop_zero, List.take_succ_cons, List.take_zero, List.drop_succ_cons]
  after_results_simp
  rfl

/-- Expert 3's answers, added. -/
theorem expert3_is (V : Valuation τ sig (Elt Ideal)) :
    after (stage 125 23) V (Proc.devRef .tc main_v99) = addf (V (Proc.devRef .tc main_v84))
      (PART (extractStridedSlice S8x8192x1 ![0, 0, 3] (V (Proc.devRef .tc main_v38)) slices_S8x8192x8_S8x8192x1_0_0_3) (V (Proc.devRef .tc main_v17))
      (extractStridedSlice S1x1024x1408 ![3, 0, 0] (V (Proc.devRef .tc main_arg6)) slices_S8x1024x1408_S1x1024x1408_3_0_0)
      (extractStridedSlice S1x1024x1408 ![3, 0, 0] (V (Proc.devRef .tc main_arg7)) slices_S8x1024x1408_S1x1024x1408_3_0_0)
      (extractStridedSlice S1x1408x1024 ![3, 0, 0] (V (Proc.devRef .tc main_arg8)) slices_S8x1408x1024_S1x1408x1024_3_0_0)) := by
  simp only [stage, line, List.drop_zero, List.take_succ_cons, List.take_zero, List.drop_succ_cons]
  after_results_simp
  rfl

/-- Expert 4's answers, added. -/
theorem expert4_is (V : Valuation τ sig (Elt Ideal)) :
    after (stage 148 23) V (Proc.devRef .tc main_v114) = addf (V (Proc.devRef .tc main_v99))
      (PART (extractStridedSlice S8x8192x1 ![0, 0, 4] (V (Proc.devRef .tc main_v38)) slices_S8x8192x8_S8x8192x1_0_0_4) (V (Proc.devRef .tc main_v17))
      (extractStridedSlice S1x1024x1408 ![4, 0, 0] (V (Proc.devRef .tc main_arg6)) slices_S8x1024x1408_S1x1024x1408_4_0_0)
      (extractStridedSlice S1x1024x1408 ![4, 0, 0] (V (Proc.devRef .tc main_arg7)) slices_S8x1024x1408_S1x1024x1408_4_0_0)
      (extractStridedSlice S1x1408x1024 ![4, 0, 0] (V (Proc.devRef .tc main_arg8)) slices_S8x1408x1024_S1x1408x1024_4_0_0)) := by
  simp only [stage, line, List.drop_zero, List.take_succ_cons, List.take_zero, List.drop_succ_cons]
  after_results_simp
  rfl

/-- Expert 5's answers, added. -/
theorem expert5_is (V : Valuation τ sig (Elt Ideal)) :
    after (stage 171 23) V (Proc.devRef .tc main_v129) = addf (V (Proc.devRef .tc main_v114))
      (PART (extractStridedSlice S8x8192x1 ![0, 0, 5] (V (Proc.devRef .tc main_v38)) slices_S8x8192x8_S8x8192x1_0_0_5) (V (Proc.devRef .tc main_v17))
      (extractStridedSlice S1x1024x1408 ![5, 0, 0] (V (Proc.devRef .tc main_arg6)) slices_S8x1024x1408_S1x1024x1408_5_0_0)
      (extractStridedSlice S1x1024x1408 ![5, 0, 0] (V (Proc.devRef .tc main_arg7)) slices_S8x1024x1408_S1x1024x1408_5_0_0)
      (extractStridedSlice S1x1408x1024 ![5, 0, 0] (V (Proc.devRef .tc main_arg8)) slices_S8x1408x1024_S1x1408x1024_5_0_0)) := by
  simp only [stage, line, List.drop_zero, List.take_succ_cons, List.take_zero, List.drop_succ_cons]
  after_results_simp
  rfl

/-- Expert 6's answers, added. -/
theorem expert6_is (V : Valuation τ sig (Elt Ideal)) :
    after (stage 194 23) V (Proc.devRef .tc main_v144) = addf (V (Proc.devRef .tc main_v129))
      (PART (extractStridedSlice S8x8192x1 ![0, 0, 6] (V (Proc.devRef .tc main_v38)) slices_S8x8192x8_S8x8192x1_0_0_6) (V (Proc.devRef .tc main_v17))
      (extractStridedSlice S1x1024x1408 ![6, 0, 0] (V (Proc.devRef .tc main_arg6)) slices_S8x1024x1408_S1x1024x1408_6_0_0)
      (extractStridedSlice S1x1024x1408 ![6, 0, 0] (V (Proc.devRef .tc main_arg7)) slices_S8x1024x1408_S1x1024x1408_6_0_0)
      (extractStridedSlice S1x1408x1024 ![6, 0, 0] (V (Proc.devRef .tc main_arg8)) slices_S8x1408x1024_S1x1408x1024_6_0_0)) := by
  simp only [stage, line, List.drop_zero, List.take_succ_cons, List.take_zero, List.drop_succ_cons]
  after_results_simp
  rfl

/-- Expert 7's answers, added. -/
theorem expert7_is (V : Valuation τ sig (Elt Ideal)) :
    after (stage 217 23) V (Proc.devRef .tc main_v159) = addf (V (Proc.devRef .tc main_v144))
      (PART (extractStridedSlice S8x8192x1 ![0, 0, 7] (V (Proc.devRef .tc main_v38)) slices_S8x8192x8_S8x8192x1_0_0_7) (V (Proc.devRef .tc main_v17))
      (extractStridedSlice S1x1024x1408 ![7, 0, 0] (V (Proc.devRef .tc main_arg6)) slices_S8x1024x1408_S1x1024x1408_7_0_0)
      (extractStridedSlice S1x1024x1408 ![7, 0, 0] (V (Proc.devRef .tc main_arg7)) slices_S8x1024x1408_S1x1024x1408_7_0_0)
      (extractStridedSlice S1x1408x1024 ![7, 0, 0] (V (Proc.devRef .tc main_arg8)) slices_S8x1408x1024_S1x1408x1024_7_0_0)) := by
  simp only [stage, line, List.drop_zero, List.take_succ_cons, List.take_zero, List.drop_succ_cons]
  after_results_simp
  rfl

/-- The rows in one column. -/
theorem rows_are (V : Valuation τ sig (Elt Ideal)) :
    after (stage 240 2) V (Proc.devRef .tc main_v161) = (shapeCast S65536x1024 (addf (V (Proc.devRef .tc main_v4) : FVec Ideal S8x8192x1024 .f32) (V (Proc.devRef .tc main_v159)))
      shapeCasts_S8x8192x1024_S65536x1024 : FVec Ideal S65536x1024 .f32) := by
  simp only [stage, line, List.drop_zero, List.take_succ_cons, List.take_zero, List.drop_succ_cons]
  after_results_simp
  rfl

/-! What each stage leaves alone. -/

theorem keepA (V : Valuation τ sig (Elt Ideal)) (b : Ref sig .tc) (hb : b ∈ ([main_arg0, main_arg1, main_arg2, main_arg3, main_arg4, main_arg5, main_arg6, main_arg7, main_arg8] : List (Ref sig .tc))) :
    after (stage 0 21) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h <;> subst h <;> after_results_simp

theorem keepB (V : Valuation τ sig (Elt Ideal)) (b : Ref sig .tc) (hb : b ∈ ([main_arg0, main_arg1, main_arg2, main_arg3, main_arg4, main_arg5, main_arg6, main_arg7, main_arg8, main_v4, main_v17] : List (Ref sig .tc))) :
    after (stage 21 15) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h <;> subst h <;> after_results_simp

theorem keepC (V : Valuation τ sig (Elt Ideal)) (b : Ref sig .tc) (hb : b ∈ ([main_arg0, main_arg1, main_arg2, main_arg3, main_arg4, main_arg5, main_arg6, main_arg7, main_arg8, main_v4, main_v17] : List (Ref sig .tc))) :
    after (stage 36 18) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h <;> subst h <;> after_results_simp

theorem keepD (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 54 2) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keep0 (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 56 23) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keep1 (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 79 23) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keep2 (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 102 23) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keep3 (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 125 23) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keep4 (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 148 23) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keep5 (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 171 23) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keep6 (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 194 23) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keep7 (V : Valuation τ sig (Elt Ideal)) (b : Ref sig .tc) (hb : b ∈ ([main_arg0, main_arg1, main_arg2, main_arg3, main_arg4, main_arg5, main_arg6, main_arg7, main_arg8, main_v4, main_v17, main_v38] : List (Ref sig .tc))) :
    after (stage 217 23) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h | h | h | h <;> subst h <;> after_results_simp

theorem keepZ (V : Valuation τ sig (Elt Ideal)) (b : Ref sig .tc) (hb : b ∈ ([main_arg0, main_arg1, main_arg2, main_arg3, main_arg4, main_arg5, main_arg6, main_arg7, main_arg8] : List (Ref sig .tc))) :
    after (stage 240 2) V (Proc.devRef .tc b) = V (Proc.devRef .tc b) := by
  simp only [stage, line, List.drop_zero, List.take_succ_cons, List.take_zero, List.drop_succ_cons]
  simp only [List.mem_cons, List.not_mem_nil, or_false] at hb
  rcases hb with h | h | h | h | h | h | h | h | h <;> subst h <;> after_results_simp

/-! The whole line. -/

/-- The line leaves the arguments alone. -/
theorem line_keeps (V : Valuation τ sig (Elt Ideal)) (b : Ref sig .tc) (hb : b ∈ ([main_arg0, main_arg1, main_arg2, main_arg3, main_arg4, main_arg5, main_arg6, main_arg7, main_arg8] : List (Ref sig .tc))) :
    after line.1 V (Proc.devRef .tc b) = V (Proc.devRef .tc b) := by
  have more : ∀ l : List (Ref sig .tc), b ∈ ([main_arg0, main_arg1, main_arg2, main_arg3, main_arg4, main_arg5, main_arg6, main_arg7, main_arg8] : List (Ref sig .tc)) ++ l := fun l => List.mem_append_left l hb
  rw [show line.1 = line.1.drop 0 from rfl, cut 0 21 21 rfl, cut 21 15 36 rfl, cut 36 18 54 rfl, cut 54 2 56 rfl, cut 56 23 79 rfl, cut 79 23 102 rfl, cut 102 23 125 rfl, cut 125 23 148 rfl, cut 148 23 171 rfl, cut 171 23 194 rfl, cut 194 23 217 rfl, cut 217 23 240 rfl, cut 240 2 242 rfl, cut_end]
  rw [keepZ _ b hb, keep7 _ b (more _), keep6 _ b (more _), keep5 _ b (more _), keep4 _ b (more _), keep3 _ b (more _), keep2 _ b (more _), keep1 _ b (more _), keep0 _ b (more _), keepD _ b (more _), keepC _ b (more _), keepB _ b (more _), keepA _ b hb]

end Cert.ReferenceIdeal.Moe

end
-- ==== Proof.Moe.Line.lean ====
/- The routed reference's run, end to end: the host line's stages joined. -/
module

public import proofs.«01_k».proof.Proof.Moe.Stages
public import Idealize.ShloMosaic.Lib.Claim

@[expose] public section

set_option maxRecDepth 16384

noncomputable section

namespace Cert.ReferenceIdeal.Moe

open Idealize.ShloMosaic Idealize.ShloMosaic.TcCoe Idealize.SL.Sem Idealize.ShloMosaic.StableHlo
open Cert.ReferenceIdeal Cert.ReferenceIdeal.Gen Cert.Rows

/-- The stream, its norm and the gates of the arguments `V` holds. -/
def mixed (V : Valuation τ sig (Elt Ideal)) : FVec Ideal S8x8192x1024 .f32 :=
  MIX (V (Proc.devRef .tc main_arg0)) (V (Proc.devRef .tc main_arg1)) (V (Proc.devRef .tc main_arg2)) (V (Proc.devRef .tc main_arg3))
def normed (V : Valuation τ sig (Elt Ideal)) : FVec Ideal S8x8192x1024 .f32 := NORM (mixed V) (V (Proc.devRef .tc main_arg4))
def gated (V : Valuation τ sig (Elt Ideal)) : FVec Ideal S8x8192x8 .f32 := ROUTE (ODDS (normed V) (V (Proc.devRef .tc main_arg5)))

/-- What stays while the experts answer. -/
def Held (V W : Valuation τ sig (Elt Ideal)) : Prop :=
  (W (Proc.devRef .tc main_v4)) = mixed V ∧ (W (Proc.devRef .tc main_v17)) = normed V ∧ (W (Proc.devRef .tc main_v38)) = gated V
  ∧ (W (Proc.devRef .tc main_arg6)) = (V (Proc.devRef .tc main_arg6)) ∧ (W (Proc.devRef .tc main_arg7)) = (V (Proc.devRef .tc main_arg7)) ∧ (W (Proc.devRef .tc main_arg8)) = (V (Proc.devRef .tc main_arg8))

theorem held_first (V : Valuation τ sig (Elt Ideal)) :
    Held V (after (stage 54 2) (after (stage 36 18) (after (stage 21 15) (after (stage 0 21) V)))) := by
  refine ⟨?_, ?_, ?_, ?_, ?_, ?_⟩
  · rw [keepD _ main_v4 (by decide), keepC _ main_v4 (by decide), keepB _ main_v4 (by decide), stream_is]; rfl
  · rw [keepD _ main_v17 (by decide), keepC _ main_v17 (by decide), keepB _ main_v17 (by decide), norm_is]; rfl
  · rw [keepD _ main_v38 (by decide), gates_are, odds_are, norm_is, keepA _ main_arg5 (by decide)]; rfl
  · rw [keepD _ main_arg6 (by decide), keepC _ main_arg6 (by decide), keepB _ main_arg6 (by decide), keepA _ main_arg6 (by decide)]
  · rw [keepD _ main_arg7 (by decide), keepC _ main_arg7 (by decide), keepB _ main_arg7 (by decide), keepA _ main_arg7 (by decide)]
  · rw [keepD _ main_arg8 (by decide), keepC _ main_arg8 (by decide), keepB _ main_arg8 (by decide), keepA _ main_arg8 (by decide)]

/-- A stage that leaves those buffers alone. -/
theorem Held.on {V W : Valuation τ sig (Elt Ideal)} (h : Held V W) (W' : Valuation τ sig (Elt Ideal))
    (hk : ∀ b : Ref sig .tc, b ∈ ([main_arg0, main_arg1, main_arg2, main_arg3, main_arg4, main_arg5, main_arg6, main_arg7, main_arg8, main_v4, main_v17, main_v38] : List (Ref sig .tc)) →
      W' (Proc.devRef .tc b) = W (Proc.devRef .tc b)) : Held V W' :=
  ⟨(hk _ (by decide)).trans h.1, (hk _ (by decide)).trans h.2.1, (hk _ (by decide)).trans h.2.2.1, (hk _ (by decide)).trans h.2.2.2.1,
    (hk _ (by decide)).trans h.2.2.2.2.1, (hk _ (by decide)).trans h.2.2.2.2.2⟩

theorem sum0_is {V W : Valuation τ sig (Elt Ideal)} (h : Held V W) (hs : (W (Proc.devRef .tc main_v39)) = (broadcastInDim S8x8192x1024 ![] bcast_S_S8x8192x1024 (constant S_ .f32 0x00000000#32) : FVec Ideal S8x8192x1024 .f32)) :
    after (stage 56 23) W (Proc.devRef .tc main_v54) = SUM0 (normed V) (gated V) (V (Proc.devRef .tc main_arg6)) (V (Proc.devRef .tc main_arg7)) (V (Proc.devRef .tc main_arg8)) := by
  rw [expert0_is, hs, h.2.1, h.2.2.1, h.2.2.2.1, h.2.2.2.2.1, h.2.2.2.2.2]
  rfl

theorem sum1_is {V W : Valuation τ sig (Elt Ideal)} (h : Held V W) (hs : (W (Proc.devRef .tc main_v54)) = SUM0 (normed V) (gated V) (V (Proc.devRef .tc main_arg6)) (V (Proc.devRef .tc main_arg7)) (V (Proc.devRef .tc main_arg8))) :
    after (stage 79 23) W (Proc.devRef .tc main_v69) = SUM1 (normed V) (gated V) (V (Proc.devRef .tc main_arg6)) (V (Proc.devRef .tc main_arg7)) (V (Proc.devRef .tc main_arg8)) := by
  rw [expert1_is, hs, h.2.1, h.2.2.1, h.2.2.2.1, h.2.2.2.2.1, h.2.2.2.2.2]
  rfl

theorem sum2_is {V W : Valuation τ sig (Elt Ideal)} (h : Held V W) (hs : (W (Proc.devRef .tc main_v69)) = SUM1 (normed V) (gated V) (V (Proc.devRef .tc main_arg6)) (V (Proc.devRef .tc main_arg7)) (V (Proc.devRef .tc main_arg8))) :
    after (stage 102 23) W (Proc.devRef .tc main_v84) = SUM2 (normed V) (gated V) (V (Proc.devRef .tc main_arg6)) (V (Proc.devRef .tc main_arg7)) (V (Proc.devRef .tc main_arg8)) := by
  rw [expert2_is, hs, h.2.1, h.2.2.1, h.2.2.2.1, h.2.2.2.2.1, h.2.2.2.2.2]
  rfl

theorem sum3_is {V W : Valuation τ sig (Elt Ideal)} (h : Held V W) (hs : (W (Proc.devRef .tc main_v84)) = SUM2 (normed V) (gated V) (V (Proc.devRef .tc main_arg6)) (V (Proc.devRef .tc main_arg7)) (V (Proc.devRef .tc main_arg8))) :
    after (stage 125 23) W (Proc.devRef .tc main_v99) = SUM3 (normed V) (gated V) (V (Proc.devRef .tc main_arg6)) (V (Proc.devRef .tc main_arg7)) (V (Proc.devRef .tc main_arg8)) := by
  rw [expert3_is, hs, h.2.1, h.2.2.1, h.2.2.2.1, h.2.2.2.2.1, h.2.2.2.2.2]
  rfl

theorem sum4_is {V W : Valuation τ sig (Elt Ideal)} (h : Held V W) (hs : (W (Proc.devRef .tc main_v99)) = SUM3 (normed V) (gated V) (V (Proc.devRef .tc main_arg6)) (V (Proc.devRef .tc main_arg7)) (V (Proc.devRef .tc main_arg8))) :
    after (stage 148 23) W (Proc.devRef .tc main_v114) = SUM4 (normed V) (gated V) (V (Proc.devRef .tc main_arg6)) (V (Proc.devRef .tc main_arg7)) (V (Proc.devRef .tc main_arg8)) := by
  rw [expert4_is, hs, h.2.1, h.2.2.1, h.2.2.2.1, h.2.2.2.2.1, h.2.2.2.2.2]
  rfl

theorem sum5_is {V W : Valuation τ sig (Elt Ideal)} (h : Held V W) (hs : (W (Proc.devRef .tc main_v114)) = SUM4 (normed V) (gated V) (V (Proc.devRef .tc main_arg6)) (V (Proc.devRef .tc main_arg7)) (V (Proc.devRef .tc main_arg8))) :
    after (stage 171 23) W (Proc.devRef .tc main_v129) = SUM5 (normed V) (gated V) (V (Proc.devRef .tc main_arg6)) (V (Proc.devRef .tc main_arg7)) (V (Proc.devRef .tc main_arg8)) := by
  rw [expert5_is, hs, h.2.1, h.2.2.1, h.2.2.2.1, h.2.2.2.2.1, h.2.2.2.2.2]
  rfl

theorem sum6_is {V W : Valuation τ sig (Elt Ideal)} (h : Held V W) (hs : (W (Proc.devRef .tc main_v129)) = SUM5 (normed V) (gated V) (V (Proc.devRef .tc main_arg6)) (V (Proc.devRef .tc main_arg7)) (V (Proc.devRef .tc main_arg8))) :
    after (stage 194 23) W (Proc.devRef .tc main_v144) = SUM6 (normed V) (gated V) (V (Proc.devRef .tc main_arg6)) (V (Proc.devRef .tc main_arg7)) (V (Proc.devRef .tc main_arg8)) := by
  rw [expert6_is, hs, h.2.1, h.2.2.1, h.2.2.2.1, h.2.2.2.2.1, h.2.2.2.2.2]
  rfl

theorem sum7_is {V W : Valuation τ sig (Elt Ideal)} (h : Held V W) (hs : (W (Proc.devRef .tc main_v144)) = SUM6 (normed V) (gated V) (V (Proc.devRef .tc main_arg6)) (V (Proc.devRef .tc main_arg7)) (V (Proc.devRef .tc main_arg8))) :
    after (stage 217 23) W (Proc.devRef .tc main_v159) = SUM7 (normed V) (gated V) (V (Proc.devRef .tc main_arg6)) (V (Proc.devRef .tc main_arg7)) (V (Proc.devRef .tc main_arg8)) := by
  rw [expert7_is, hs, h.2.1, h.2.2.1, h.2.2.2.1, h.2.2.2.2.1, h.2.2.2.2.2]
  rfl

/-- The line's result is the layer. -/
theorem line_is (V : Valuation τ sig (Elt Ideal)) :
    after line.1 V (Proc.devRef .tc main_v161)
      = shapeCast S65536x1024 (LAYER (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) shapeCasts_S8x8192x1024_S65536x1024 := by
  rw [show line.1 = line.1.drop 0 from rfl, cut 0 21 21 rfl, cut 21 15 36 rfl, cut 36 18 54 rfl, cut 54 2 56 rfl, cut 56 23 79 rfl, cut 79 23 102 rfl, cut 102 23 125 rfl, cut 125 23 148 rfl, cut 148 23 171 rfl, cut 171 23 194 rfl, cut 194 23 217 rfl, cut 217 23 240 rfl, cut 240 2 242 rfl, cut_end]
  have h0 := held_first V
  have s0 := sum0_is h0 (zeros_are _)
  have h1 := h0.on _ (keep0 _)
  have s1 := sum1_is h1 s0
  have h2 := h1.on _ (keep1 _)
  have s2 := sum2_is h2 s1
  have h3 := h2.on _ (keep2 _)
  have s3 := sum3_is h3 s2
  have h4 := h3.on _ (keep3 _)
  have s4 := sum4_is h4 s3
  have h5 := h4.on _ (keep4 _)
  have s5 := sum5_is h5 s4
  have h6 := h5.on _ (keep5 _)
  have s6 := sum6_is h6 s5
  have h7 := h6.on _ (keep6 _)
  have s7 := sum7_is h7 s6
  have h8 := h7.on _ (keep7 _)
  rw [rows_are, h8.1, s7]
  rfl

/-- Run from any memory, the reference leaves the layer's rows and its arguments as they were. -/
theorem ends (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ (d : Dev nD) (b : Ref sig .tc), r.2.mem ((d.tc : Thread nD τ).loc b) = after line.1 (launchContents m d) (Proc.devRef .tc b)) :=
  run_hlo _ _ line.2 (by decide) (by decide) (by simp [line])
    (by intro _ h; unfold line at h; (repeat (cases h with | head => rfl | tail _ h => ?_)); exact nomatch h) _ _

end Cert.ReferenceIdeal.Moe

end
-- ==== Proof.Moe.Expert.lean ====
/- One expert's loop on extended reals: trip `k` gathers the tokens of rank `288 k … 288 k + 287`, and scatters the expert's
   answers back, gated. -/
module

public import proofs.«01_k».proof.Proof.Moe.State
public import proofs.«01_k».proof.Proof.Moe.Count

@[expose] public section

set_option maxRecDepth 16384

noncomputable section

namespace Cert.KernelIdeal.Moe

open Idealize.ShloMosaic Idealize.ShloMosaic.TcCoe Idealize.SL.Sem
open Cert.KernelIdeal Cert.KernelIdeal.Gen Cert.Rows

/-- A choice by an equality of words. -/
theorem select_eq {α : Type} {w : ℕ} (a b : BitVec w) (x y : α) :
    Scalar.select (IntOp.cmpi CmpIPredicate.eq a b) x y = if a = b then x else y := by
  by_cases h : a = b
  · simp [Scalar.select, IntOp.cmpi, h]
  · have hb : (a == b) = false := by simpa using h
    simp [Scalar.select, IntOp.cmpi, h, hb]

/-- The gather matrix's entry: the token of rank row `v` sits in slot `s` of the sub-block starting at `b`. -/
def hit (b : BitVec 32) (v : EReal) (s : Fin 288) : EReal :=
  if v - ((b.toInt : ℝ) : EReal) = (((BitVec.ofNat 32 s.val).toInt : ℝ) : EReal) then 1 else 0

/-- The accumulator's update. -/
theorem pay2_apply (g : FVec Ideal S1024x1 .f32) (acc : Vec Ideal S1024x1024 .f32) (p : FVec Ideal S1024x1024 .f32) (y : S1024x1024.Idx) :
    k0_pay2 g acc p y = acc y + g (ix2 (y 0) 0) * p y := by
  pointwise [k0_pay2]

/-- One sub-block: gather, the expert's feed-forward, scatter. -/
theorem pay104_apply (v : FVec Ideal S1x1024 .f32) (n : BitVec 32) (k : Fin (k0_t1_loop n).trips) (h : Vec Ideal S1024x1024 .bf16)
    (wg wu : Vec Ideal S1x1024x1408 .bf16) (wd : Vec Ideal S1x1408x1024 .bf16) (y : S1024x1024.Idx) :
    k0_pay104 v n (k0_pay1 (F := Ideal)) 0#32 1#32 k h wg wu wd y
      = ∑ s : Fin 288, hit (Scalar.muli (Scf.iv 0#32 1#32 k) 288#32) (v (ix2 0 (y 0))) s
          * Rows.swiglu (fun j => ∑ t : Fin 1024, hit (Scalar.muli (Scf.iv 0#32 1#32 k) 288#32) (v (ix2 0 t)) s * h (ix2 t j))
              (fun k f => wg (ix3 0 k f)) (fun k f => wu (ix3 0 k f)) (fun f j => wd (ix3 0 f j)) (y 1) := by
  pointwise [k0_pay104, k0_pay1, Rows.swiglu, Rows.silu, hit]
  simp only [zero_sub]
  rfl

/-- The gate column the expert reads. -/
theorem pay107_apply (i : grid0.Coords) (g : Vec Ideal S1024x128 .f32) (y : S1024x1.Idx) :
    k0_pay107 i g y = ∑ l : Fin 128, if BitVec.ofNat 32 l.val = BitVec.ofNat 32 (i 1).val then g (ix2 (y 0) l) else 0 := by
  pointwise [k0_pay107, k0_pay106]
  exact Finset.sum_congr rfl fun l _ => select_eq _ _ _ _

/-- The rank row it reads. -/
theorem pay108_apply (v : Vec Ideal S1x1x1024 .f32) (y : S1x1024.Idx) : k0_pay108 v y = v (ix3 0 0 (y 1)) := by
  pointwise [k0_pay108]

/-- The count it reads. -/
theorem pay109_apply (i : grid0.Coords) (g : Vec Ideal S8x128 .f32) :
    k0_pay109 i g = ∑ l : Fin 128, if BitVec.ofNat 32 l.val = BitVec.ofNat 32 (i 1).val then g (ix2 0 l) else 0 := by
  pointwise [k0_pay109, k0_pay106]
  exact Finset.sum_congr rfl fun l _ => select_eq _ _ _ _

/-- The lane of an expert. -/
def lane (e : Fin 8) : Fin 128 := ⟨e.val, by omega⟩

/-- The sum that picks the lane of expert `e`. -/
theorem sum_lane (e : Fin 8) (f : Fin 128 → EReal) :
    (∑ l : Fin 128, if BitVec.ofNat 32 l.val = BitVec.ofNat 32 e.val then f l else 0) = f (lane e) := by
  rw [Finset.sum_eq_single (lane e)]
  · simp [lane]
  · intro b _ hb
    rw [if_neg]
    intro h
    have := congrArg BitVec.toNat h
    simp only [BitVec.toNat_ofNat] at this
    exact hb (Fin.ext (by simp only [lane]; omega))
  · intro h; exact absurd (Finset.mem_univ _) h

/-- The rank block of the point's expert. -/
theorem rankBlk_apply (i : grid0.Coords) (rt : Vec Ideal S8x1x1024 .f32) (t : Fin 1024) :
    rankBlk i rt (ix3 0 0 t) = rt (ix3 (i 1) 0 t) := by
  unfold rankBlk
  refine congrArg rt ?_
  funext a
  apply Fin.ext
  have h8 : (i 1).val < 8 := (i 1).isLt
  fin_cases a
  · simp [k0_off1, Rect.unit, Scalar.indexCast]; omega
  · simp [k0_off1, Rect.unit]
  · simp [k0_off1, Rect.unit]

/-- The words a trip counts by, as integers. -/
theorem word_toInt {n : ℕ} (hn : n < 2 ^ 31) : (BitVec.ofNat 32 n).toInt = (n : ℤ) := by
  rw [BitVec.toInt_eq_toNat_cond, BitVec.toNat_ofNat]
  have : n % 2 ^ 32 = n := by omega
  rw [this, if_pos (by omega)]

theorem base_eq (k : ℕ) : Scalar.muli (Scf.iv 0#32 1#32 k) 288#32 = BitVec.ofNat 32 (k * 288) := by
  simp [Scalar.muli, Scf.iv, IntOp.muli]
  rw [show (288#32) = BitVec.ofNat 32 288 from rfl, ← BitVec.ofNat_mul]

/-- A token of rank `r` sits in slot `r − b`. -/
theorem hit_rank (b r : ℕ) (hb : b < 2 ^ 31) (s : Fin 288) :
    hit (BitVec.ofNat 32 b) ((r : ℝ) : EReal) s = if r = b + s.val then 1 else 0 := by
  unfold hit
  rw [word_toInt hb, word_toInt (by omega), ← EReal.coe_sub]
  refine if_congr ?_ rfl rfl
  rw [EReal.coe_eq_coe_iff]
  push_cast
  constructor
  · intro h
    have h2 : (r : ℝ) = ((b + s.val : ℕ) : ℝ) := by push_cast; linarith
    exact_mod_cast h2
  · intro h
    subst h
    push_cast
    ring

/-- A token that is not taken sits in none. -/
theorem hit_none (b : ℕ) (hb : b < 2 ^ 31) (s : Fin 288) : hit (BitVec.ofNat 32 b) ((-1 : ℝ) : EReal) s = 0 := by
  unfold hit
  rw [word_toInt hb, word_toInt (by omega), ← EReal.coe_sub]
  refine if_neg fun h => ?_
  rw [EReal.coe_eq_coe_iff] at h
  have h1 : (0 : ℝ) ≤ ((b : ℤ) : ℝ) := by positivity
  have h2 : (0 : ℝ) ≤ ((s.val : ℤ) : ℝ) := by positivity
  linarith

/-- The count, read back as a word. -/
theorem nTok_eq (i : grid0.Coords) (cnt : Vec Ideal S8x128 .f32) (n : ℕ) (hn : n ≤ 1024)
    (h : cnt (ix2 0 (lane (i 1))) = ((n : ℝ) : EReal)) :
    nTok i cnt = BitVec.ofNat 32 n := by
  unfold nTok
  rw [pay109_apply]
  have hs : (∑ l : Fin 128, if BitVec.ofNat 32 l.val = BitVec.ofNat 32 (i 1).val then cnt (ix2 0 l) else 0) = ((n : ℝ) : EReal) :=
    (sum_lane (i 1) (fun l => cnt (ix2 0 l))).trans h
  rw [hs, Ideal.scalar_fptosi_def]
  unfold Ideal.fptosi
  rw [Ideal.toIntClamped_coe, if_pos (by positivity), Int.floor_natCast]
  have : max (-((2 ^ (32 - 1) : ℕ) : ℤ)) (min (((2 ^ (32 - 1) : ℕ) : ℤ) - 1) (n : ℤ)) = (n : ℤ) := by
    have h1 : ((2 ^ (32 - 1) : ℕ) : ℤ) = 2147483648 := by norm_num
    rw [h1]; omega
  rw [this, BitVec.ofInt_natCast]

/-- The accumulator before trip `k`, at a taken token: its answer is there once its own sub-block has gone by. -/
theorem accAt_taken (g : FVec Ideal S1024x1 .f32) (v : FVec Ideal S1x1024 .f32) (n : ℕ) (hn : n ≤ 1024) (h : Vec Ideal S1024x1024 .bf16)
    (wg wu : Vec Ideal S1x1024x1408 .bf16) (wd : Vec Ideal S1x1408x1024 .bf16) (acc : Vec Ideal S1024x1024 .f32)
    (R : Fin 1024 → Prop) [DecidablePred R] (hR : total R = n)
    (hv : ∀ t, v (ix2 0 t) = if R t then ((rank R t : ℝ) : EReal) else ((-1 : ℝ) : EReal))
    (t : Fin 1024) (ht : R t) (j : Fin 1024) (k : ℕ) (hk : k ≤ (n + 287) / 288) :
    accAt g v (BitVec.ofNat 32 n) h wg wu wd acc k (ix2 t j) = acc (ix2 t j)
      + if rank R t / 288 < k then g (ix2 t 0) * Rows.swiglu (fun j => h (ix2 t j)) (fun k f => wg (ix3 0 k f))
          (fun k f => wu (ix3 0 k f)) (fun f j => wd (ix3 0 f j)) j else 0 := by
  have htr : (k0_t1_loop (BitVec.ofNat 32 n)).trips = (n + 287) / 288 := trips_eq ⟨n, by omega⟩
  induction k with
  | zero => simp [accAt]
  | succ k ih =>
    show accStep _ _ _ _ _ _ _ k (accAt _ _ _ _ _ _ _ _ k) (ix2 t j) = _
    unfold accStep
    rw [dif_pos (by rw [htr]; omega), pay2_apply, pay104_apply, ih (by omega)]
    simp only [base_eq, hv, ix2_0, ix2_1, if_pos ht]
    have hb : k * 288 < 2 ^ 31 := by omega
    simp only [hit_rank _ _ hb]
    have hlt := rank_lt_total R ht
    by_cases hq : rank R t / 288 = k
    · rw [if_neg (by omega), if_pos (by omega), add_zero]
      have hs : ∀ s : Fin 288, rank R t = k * 288 + s.val ↔ s = ⟨rank R t % 288, Nat.mod_lt _ (by omega)⟩ := by
        intro s
        rw [Fin.ext_iff]
        simp only
        have := s.isLt
        omega
      rw [sum_pick _ _ hs]
      congr 2
      congr 1
      funext j
      rw [← sum_pick (fun u => u = t) t (fun _ => Iff.rfl) (fun u => h (ix2 u j))]
      refine Finset.sum_congr rfl fun u _ => ?_
      congr 1
      by_cases hu : R u
      · rw [if_pos hu, hit_rank _ _ hb]
        refine if_congr ?_ rfl rfl
        simp only
        constructor
        · intro h
          refine rank_inj R hu ht ?_
          omega
        · rintro rfl; omega
      · rw [if_neg hu, hit_none _ hb, if_neg]
        rintro rfl; exact hu ht
    · rw [sum_none]
      · rw [mul_zero, add_zero]
        by_cases hq2 : rank R t / 288 < k
        · rw [if_pos hq2, if_pos (by omega)]
        · rw [if_neg hq2, if_neg (by omega)]
      · intro s hs
        have := s.isLt
        omega

/-- The accumulator before any trip, at a token that is not taken: its gate is zero. -/
theorem accAt_idle (g : FVec Ideal S1024x1 .f32) (v : FVec Ideal S1x1024 .f32) (n : BitVec 32) (h : Vec Ideal S1024x1024 .bf16)
    (wg wu : Vec Ideal S1x1024x1408 .bf16) (wd : Vec Ideal S1x1408x1024 .bf16) (acc : Vec Ideal S1024x1024 .f32)
    (t : Fin 1024) (hg : g (ix2 t 0) = 0) (j : Fin 1024) (k : ℕ) :
    accAt g v n h wg wu wd acc k (ix2 t j) = acc (ix2 t j) := by
  induction k with
  | zero => rfl
  | succ k ih =>
    show accStep _ _ _ _ _ _ _ k (accAt _ _ _ _ _ _ _ _ k) (ix2 t j) = _
    unfold accStep
    split
    · rw [pay2_apply, ih]
      simp only [ix2_0, hg, zero_mul, add_zero]
    · exact ih

/-- The accumulator after the point: every token's gated answer of the point's expert is added. -/
theorem accNext_apply (i : grid0.Coords) (gate : Vec Ideal S1024x128 .f32) (rt : Vec Ideal S8x1x1024 .f32) (cnt : Vec Ideal S8x128 .f32)
    (h : Vec Ideal S1024x1024 .bf16) (wg wu : Vec Ideal S1x1024x1408 .bf16) (wd : Vec Ideal S1x1408x1024 .bf16)
    (acc : Vec Ideal S1024x1024 .f32) (e : Fin 8) (he : i 1 = e) (R : Fin 1024 → Prop) [DecidablePred R]
    (hrt : ∀ t, rt (ix3 e 0 t) = if R t then ((rank R t : ℝ) : EReal) else ((-1 : ℝ) : EReal))
    (hcnt : cnt (ix2 0 (lane e)) = ((total R : ℝ) : EReal))
    (hgate : ∀ t, ¬R t → gate (ix2 t (lane e)) = 0) (t : Fin 1024) (j : Fin 1024) :
    accNext i gate rt cnt h wg wu wd acc (ix2 t j) = acc (ix2 t j) + gate (ix2 t (lane e))
      * Rows.swiglu (fun j => h (ix2 t j)) (fun k f => wg (ix3 0 k f)) (fun k f => wu (ix3 0 k f)) (fun f j => wd (ix3 0 f j)) j := by
  subst he
  have hg : k0_pay107 i gate (ix2 t 0) = gate (ix2 t (lane (i 1))) := by
    rw [pay107_apply]
    exact sum_lane (i 1) (fun l => gate (ix2 t l))
  have hN : total R ≤ 1024 := total_le R
  have hn := nTok_eq i cnt (total R) hN hcnt
  unfold accNext
  by_cases ht : R t
  · rw [hn]
    have htr : (k0_t1_loop (BitVec.ofNat 32 (total R))).trips = (total R + 287) / 288 := trips_eq ⟨total R, by omega⟩
    rw [htr]
    refine (accAt_taken _ _ (total R) hN h wg wu wd acc R rfl ?_ t ht j _ le_rfl).trans ?_
    · intro u
      rw [pay108_apply]
      exact (rankBlk_apply i rt u).trans (hrt u)
    · have hlt := rank_lt_total R ht
      rw [if_pos (by omega), hg]
  · have hg0 : gate (ix2 t (lane (i 1))) = 0 := hgate t ht
    rw [accAt_idle _ _ _ _ _ _ _ _ t (hg.trans hg0), hg0, zero_mul, add_zero]

end Cert.KernelIdeal.Moe

end
-- ==== Proof.Moe.Route.lean ====
/- The routing a tile's first point works out, at a token: the lane of each choice, the gates, the ranks and the counts, as
   `Rows.gate` and `Rows.taken` say them of the token's normed row. -/
module

public import proofs.«01_k».proof.Proof.Moe.Expert
public import proofs.«01_k».proof.Proof.Moe.Finite

@[expose] public section

set_option maxRecDepth 16384

noncomputable section

namespace Cert.KernelIdeal.Moe

open Idealize.ShloMosaic Idealize.ShloMosaic.TcCoe Idealize.SL.Sem
open Cert.KernelIdeal Cert.KernelIdeal.Gen Cert.Rows

/-- The residual row of the tile's token after the out-projection. -/
theorem pay4_apply (x : Vec Ideal S1024x1024 .f32) (a : Vec Ideal S1024x512 .bf16) (wa : Vec Ideal S512x1024 .bf16)
    (b : Vec Ideal S1024x512 .bf16) (wb : Vec Ideal S512x1024 .bf16) (y : S1024x1024.Idx) :
    k0_pay4 x a wa b wb y = Rows.mix (fun j => x (ix2 (y 0) j)) (fun k => a (ix2 (y 0) k)) (fun k => b (ix2 (y 0) k))
      (fun k j => wa (ix2 k j)) (fun k j => wb (ix2 k j)) (y 1) := by
  pointwise [k0_pay4, Rows.mix]

/-- Its normed row. -/
theorem pay5_apply (x : Vec Ideal S1024x1024 .f32) (a : Vec Ideal S1024x512 .bf16) (wa : Vec Ideal S512x1024 .bf16)
    (b : Vec Ideal S1024x512 .bf16) (wb : Vec Ideal S512x1024 .bf16) (g : Vec Ideal S1x1024 .f32) (y : S1024x1024.Idx) :
    k0_pay5 x a wa b wb g y = Rows.norm (fun j => k0_pay4 x a wa b wb (ix2 (y 0) j)) (fun j => g (ix2 0 j)) (y 1) := by
  unfold k0_pay5
  generalize k0_pay4 x a wa b wb = u
  pointwise [Rows.norm]

/-- The low part of a normed row is the row less itself. -/
theorem pay7_apply (x : Vec Ideal S1024x1024 .f32) (a : Vec Ideal S1024x512 .bf16) (wa : Vec Ideal S512x1024 .bf16)
    (b : Vec Ideal S1024x512 .bf16) (wb : Vec Ideal S512x1024 .bf16) (g : Vec Ideal S1x1024 .f32) (y : S1024x1024.Idx) :
    k0_pay7 x a wa b wb g y = k0_pay5 x a wa b wb g y - k0_pay5 x a wa b wb g y := by
  unfold k0_pay7 k0_pay6
  generalize k0_pay5 x a wa b wb g = u
  pointwise

theorem pay6_apply (x : Vec Ideal S1024x1024 .f32) (a : Vec Ideal S1024x512 .bf16) (wa : Vec Ideal S512x1024 .bf16)
    (b : Vec Ideal S1024x512 .bf16) (wb : Vec Ideal S512x1024 .bf16) (g : Vec Ideal S1x1024 .f32) (y : S1024x1024.Idx) :
    k0_pay6 x a wa b wb g y = k0_pay5 x a wa b wb g y := by
  unfold k0_pay6
  generalize k0_pay5 x a wa b wb g = u
  pointwise

theorem pay8_apply (x : Vec Ideal S1024x1024 .f32) (a : Vec Ideal S1024x512 .bf16) (wa : Vec Ideal S512x1024 .bf16)
    (b : Vec Ideal S1024x512 .bf16) (wb : Vec Ideal S512x1024 .bf16) (g : Vec Ideal S1x1024 .f32) (y : S1024x1024.Idx) :
    k0_pay8 x a wa b wb g y = k0_pay5 x a wa b wb g y := by
  unfold k0_pay8 k0_pay6
  generalize k0_pay5 x a wa b wb g = u
  pointwise

theorem pay103_apply (u : FVec Ideal S1024x1024 .f32) (y : S1024x1024.Idx) : k0_pay103 u y = u y := by
  pointwise [k0_pay103]

/-! ## Lanes -/

theorem lane_inj : Function.Injective lane := fun a b h => by
  have := congrArg Fin.val h; exact Fin.ext (by simpa [lane] using this)

theorem lane_le {a b : Fin 8} : lane a ≤ lane b ↔ a ≤ b := Iff.rfl

theorem lane_or (l : Fin 128) : (∃ e, l = lane e) ∨ ¬l.val < 8 := by
  by_cases h : l.val < 8
  · exact Or.inl ⟨⟨l.val, h⟩, rfl⟩
  · exact Or.inr h

theorem lane_lt (e : Fin 8) : (lane e).val < 8 := e.isLt

/-- Reading a selection by the lane number below eight. -/
theorem select_below {α : Type} (l : Fin 128) (a b : α) :
    Scalar.select (IntOp.cmpi .slt (BitVec.ofNat 32 l.val) 8#32) a b = if l.val < 8 then a else b := by
  have h : (BitVec.ofNat 32 l.val).slt 8#32 = decide (l.val < 8) := by
    rw [Bool.eq_iff_iff, BitVec.slt_iff_toInt_lt, toInt_lane, decide_eq_true_iff]
    have : (8#32).toInt = 8 := by decide
    rw [this]; omega
  unfold Scalar.select IntOp.cmpi
  simp only [h]
  by_cases hl : l.val < 8 <;> simp [hl]

/-- The logits over the lanes: those of the experts, and nothing on the other lanes. -/
def wide (f : Fin 128 → EReal) (l : Fin 128) : EReal := if l.val < 8 then f l else ⊥

theorem wide_lane (f : Fin 128 → EReal) (e : Fin 8) : wide f (lane e) = f (lane e) := if_pos e.isLt

theorem wide_peak (f : Fin 128 → EReal) : Finset.univ.fold max ⊥ (wide f) = peak fun e => f (lane e) := by
  obtain ⟨i, -, hi⟩ := Finset.exists_mem_eq_sup (Finset.univ : Finset (Fin 8)) ⟨0, Finset.mem_univ _⟩ (fun e => f (lane e))
  have hp : peak (fun e => f (lane e)) = f (lane i) := hi
  rw [hp, fold_best (wide f) (lane i), wide_lane]
  intro l
  rw [wide_lane]
  rcases lane_or l with ⟨e, rfl⟩ | h
  · rw [wide_lane, ← hp]
    exact (Finset.le_fold_max _).mpr (Or.inr ⟨e, Finset.mem_univ _, le_refl _⟩)
  · unfold wide; rw [if_neg h]; exact bot_le

theorem wide_sum (f : Fin 128 → EReal) (M : EReal) :
    (∑ l, Ideal.exp (wide f l - M)) = ∑ e : Fin 8, Ideal.exp (f (lane e) - M) := by
  refine (Fintype.sum_of_injective lane lane_inj _ _ (fun l hl => ?_) (fun e => ?_)).symm
  · have : ¬l.val < 8 := fun h => hl ⟨⟨l.val, h⟩, rfl⟩
    unfold wide
    rw [if_neg this, sub_eq_add_neg, EReal.bot_add]; rfl
  · rw [wide_lane]

/-- The softmax over the lanes, as the kernel forms it. -/
def soft (f : Fin 128 → EReal) (l : Fin 128) : EReal :=
  Ideal.div (Ideal.exp (wide f l - Finset.univ.fold max ⊥ (wide f))) (∑ x, Ideal.exp (wide f x - Finset.univ.fold max ⊥ (wide f)))

theorem soft_lane (f : Fin 128 → EReal) (e : Fin 8) : soft f (lane e) = prob (fun e => f (lane e)) e := by
  unfold soft prob
  rw [wide_peak, wide_sum, wide_lane]

theorem soft_off (f : Fin 128 → EReal) (hf : ∀ e, Num (f (lane e))) (l : Fin 128) (hl : ¬l.val < 8) : soft f l = 0 := by
  unfold soft
  rw [wide_peak, wide_sum]
  choose w hw using hf
  simp only [hw]
  obtain ⟨M, hM⟩ := peak_real w
  rw [hM]
  have hs : (∑ k, Ideal.exp ((w k : EReal) - (M : EReal))) = ((∑ k, Real.exp (w k - M) : ℝ) : EReal) := by
    rw [← coe_sum]
    refine Finset.sum_congr rfl fun k _ => ?_
    rw [← EReal.coe_sub]; rfl
  have hpos : 0 < ∑ k, Real.exp (w k - M) := Finset.sum_pos (fun k _ => Real.exp_pos _) ⟨0, Finset.mem_univ _⟩
  rw [hs, Ideal.div_coe hpos.ne']
  unfold wide
  rw [if_neg hl, sub_eq_add_neg, EReal.bot_add, show Ideal.exp ⊥ = 0 from rfl, zero_mul]

/-! ## The two choices, found over the lanes -/

section pick
variable (p : Fin 8 → EReal) (hp : ∀ e, ∃ q : ℝ, 0 < q ∧ p e = (q : EReal)) (P : Fin 128 → EReal)
  (hP : ∀ e, P (lane e) = p e) (hP0 : ∀ l : Fin 128, ¬l.val < 8 → P l = 0)
include hp hP hP0

theorem pick1 (l : Fin 128) : P l < P (lane (top1 p)) ∨ (P l = P (lane (top1 p)) ∧ lane (top1 p) ≤ l) := by
  rcases lane_or l with ⟨e, rfl⟩ | h
  · rw [hP, hP]; exact top1_spec p e
  · rw [hP, hP0 l h]
    obtain ⟨q, hq, hq'⟩ := hp (top1 p)
    rw [hq']; exact Or.inl (by exact_mod_cast hq)

/-- The lanes with the first choice struck out. -/
def struck (a : Fin 128) (P : Fin 128 → EReal) (l : Fin 128) : EReal := if l = a then ((-1 : ℝ) : EReal) else P l

theorem struck2 : struck (lane (top1 p)) P (lane (top2 p)) = p (top2 p) := by
  unfold struck
  rw [if_neg fun h => top_ne p (lane_inj h), hP]

theorem pick2 (l : Fin 128) : struck (lane (top1 p)) P l < struck (lane (top1 p)) P (lane (top2 p))
    ∨ (struck (lane (top1 p)) P l = struck (lane (top1 p)) P (lane (top2 p)) ∧ lane (top2 p) ≤ l) := by
  rw [struck2 p hp P hP hP0]
  obtain ⟨q, hq, hq'⟩ := hp (top2 p)
  unfold struck
  by_cases h1 : l = lane (top1 p)
  · rw [if_pos h1, hq']
    refine Or.inl ?_
    rw [EReal.coe_lt_coe_iff]; linarith
  · rw [if_neg h1]
    rcases lane_or l with ⟨e, rfl⟩ | h
    · rw [hP]; exact top2_spec p e fun h => h1 (by rw [h])
    · rw [hP0 l h, hq']; exact Or.inl (by exact_mod_cast hq)

end pick

end Cert.KernelIdeal.Moe

end
-- ==== Proof.Moe.Gates.lean ====
/- The routing payloads of a tile's first point, read at a token of the tile: the softmax over the lanes, each choice's lane and
   probability, and from them the gates, the ranks and the counts. -/
module

public import proofs.«01_k».proof.Proof.Moe.Route
public import proofs.«01_k».proof.Proof.Moe.Init

@[expose] public section

set_option maxRecDepth 16384

noncomputable section

namespace Cert.KernelIdeal.Moe

open Idealize.ShloMosaic Idealize.ShloMosaic.TcCoe Idealize.SL.Sem
open Cert.KernelIdeal Cert.KernelIdeal.Gen Cert.Rows

/-- What the router's products accumulate onto. -/
abbrev zeros : FVec Ideal S1024x128 .f32 := constant S1024x128 .f32 0x00000000#32

/-- The greatest of each row of lanes. -/
theorem best_apply (P : FVec Ideal S1024x128 .f32) (t : Fin 1024) :
    shapeCast S1024x1 (multiReduction .maximumf [1] S1024 P 0xFF800000#32 reduces_S1024x128_S1024 (.inl rfl) rfl) shapeCasts_S1024_S1024x1 (ix2 t 0)
      = Finset.univ.fold max ⊥ fun l => P (ix2 t l) := by
  rw [← bot_word]
  pointwise

/-- The least lane of each row that attains a value. -/
theorem least_apply (P : FVec Ideal S1024x128 .f32) (p : FVec Ideal S1024x1 .f32) (t : Fin 1024) :
    shapeCast S1024x1 (multiReductionI .minsi [1] S1024 (select (cmpf .oeq P (broadcastTo S1024x128 p broadcasts_S1024x1_S1024x128)) lanes (broadcast S1024x128 128#32)) 2147483647#32 reduces_S1024x128_S1024 rfl) shapeCasts_S1024_S1024x1 (ix2 t 0)
      = Finset.univ.fold IntOp.minsi 2147483647#32 (fun l : Fin 128 => if P (ix2 t l) = p (ix2 t 0) then BitVec.ofNat 32 l.val else 128#32) := by
  unfold lanes
  pointwise

/-- The softmax over the lanes. -/
theorem pay10_apply (h lo : FVec Ideal S1024x1024 .bf16) (r : Vec Ideal S1024x128 .bf16) (rl : Vec Ideal S1024x128 .bf16) (t : Fin 1024) (l : Fin 128) :
    k0_pay10 lanes h lo (k0_pay9 r) zeros rl (ix2 t l)
      = soft (fun l => ∑ k, h (ix2 t k) * r (ix2 k l) + ∑ k, lo (ix2 t k) * r (ix2 k l) + ∑ k, h (ix2 t k) * rl (ix2 k l)) l := by
  unfold soft wide
  simp only [← select_below, ← bot_word]
  unfold lanes zeros
  pointwise [k0_pay10, k0_pay9]

/-- The lane number against a word. -/
theorem select_lane {α : Type} (l a : Fin 128) (x y : α) :
    Scalar.select (IntOp.cmpi .eq (BitVec.ofNat 32 l.val) (BitVec.ofNat 32 a.val)) x y = if l = a then x else y := by
  have h : (BitVec.ofNat 32 l.val == BitVec.ofNat 32 a.val) = decide (l = a) := by
    rw [Bool.eq_iff_iff, beq_iff_eq, decide_eq_true_iff]
    constructor
    · intro h
      have := congrArg BitVec.toInt h
      rw [toInt_lane, toInt_lane] at this
      exact Fin.ext (by exact_mod_cast this)
    · rintro rfl; rfl
  unfold Scalar.select IntOp.cmpi
  simp only [h]
  by_cases hl : l = a <;> simp [hl]

section
variable (h lo : FVec Ideal S1024x1024 .bf16) (r rl : Vec Ideal S1024x128 .bf16) (t : Fin 1024) (H : Fin 1024 → EReal)
  (w : Fin 1024 → Fin 8 → EReal) (hh : ∀ k, h (ix2 t k) = H k) (hlo : ∀ k, lo (ix2 t k) = 0)
  (hr : ∀ k e, r (ix2 k (lane e)) = w k e) (hrl : ∀ k l, rl (ix2 k l) = 0) (hH : ∀ k, Num (H k)) (hw : ∀ k e, Num (w k e))
include hh hlo hr hrl

theorem logit_lane (e : Fin 8) : (∑ k, h (ix2 t k) * r (ix2 k (lane e)) + ∑ k, lo (ix2 t k) * r (ix2 k (lane e))
    + ∑ k, h (ix2 t k) * rl (ix2 k (lane e)) : EReal) = logit H w e := by
  simp only [hh, hlo, hr, hrl, zero_mul, mul_zero, Finset.sum_const_zero, add_zero]
  rfl

theorem soft_prob (e : Fin 8) : k0_pay10 lanes h lo (k0_pay9 r) zeros rl (ix2 t (lane e)) = (prob (logit H w)) e := by
  rw [pay10_apply, soft_lane]
  simp only [logit_lane h lo r rl t H w hh hlo hr hrl]

include hH hw

theorem logits_num (e : Fin 8) : Num (logit H w e) := logit_real H w hH hw e

theorem soft_zero (l : Fin 128) (hl : ¬l.val < 8) : k0_pay10 lanes h lo (k0_pay9 r) zeros rl (ix2 t l) = 0 := by
  rw [pay10_apply]
  refine soft_off _ (fun e => ?_) l hl
  simp only [logit_lane h lo r rl t H w hh hlo hr hrl]
  exact logit_real H w hH hw e

/-- The first choice's probability and lane. -/
theorem pay11_apply : k0_pay11 lanes h lo (k0_pay9 r) zeros rl (ix2 t 0) = (prob (logit H w)) (top1 (prob (logit H w))) := by
  unfold k0_pay11
  refine (best_apply _ t).trans ?_
  refine (fold_best (fun l => k0_pay10 lanes h lo (k0_pay9 r) zeros rl (ix2 t l)) (lane (top1 (prob (logit H w)))) fun l => ?_).trans
    (soft_prob h lo r rl t H w hh hlo hr hrl _)
  rcases pick1 (prob (logit H w)) (prob_pos _ (logit_real H w hH hw)) (fun l => k0_pay10 lanes h lo (k0_pay9 r) zeros rl (ix2 t l))
    (soft_prob h lo r rl t H w hh hlo hr hrl) (soft_zero h lo r rl t H w hh hlo hr hrl hH hw) l with h' | h'
  · exact h'.le
  · exact h'.1.le

theorem pay12_apply : k0_pay12 lanes h lo (k0_pay9 r) zeros rl (ix2 t 0) = BitVec.ofNat 32 (lane (top1 (prob (logit H w)))).val := by
  unfold k0_pay12
  refine (least_apply _ _ t).trans ?_
  rw [pay11_apply h lo r rl t H w hh hlo hr hrl hH hw]
  refine fold_least _ _ _ (soft_prob h lo r rl t H w hh hlo hr hrl _) fun l hl => ?_
  rcases pick1 (prob (logit H w)) (prob_pos _ (logit_real H w hH hw)) (fun l => k0_pay10 lanes h lo (k0_pay9 r) zeros rl (ix2 t l))
    (soft_prob h lo r rl t H w hh hlo hr hrl) (soft_zero h lo r rl t H w hh hlo hr hrl hH hw) l with h' | h'
  · rw [soft_prob h lo r rl t H w hh hlo hr hrl] at h'
    exact absurd h' (by simp only [hl]; exact lt_irrefl _)
  · exact h'.2

/-- The lanes with the first choice struck out. -/
theorem pay13_apply (l : Fin 128) : k0_pay13 lanes h lo (k0_pay9 r) zeros rl (ix2 t l)
    = struck (lane (top1 (prob (logit H w)))) (fun l => k0_pay10 lanes h lo (k0_pay9 r) zeros rl (ix2 t l)) l := by
  unfold struck
  rw [← select_lane, ← neg_one_word, ← pay12_apply h lo r rl t H w hh hlo hr hrl hH hw]
  unfold k0_pay13
  generalize k0_pay12 lanes h lo (k0_pay9 r) zeros rl = i1
  generalize k0_pay10 lanes h lo (k0_pay9 r) zeros rl = P
  unfold lanes
  pointwise

/-- The second choice's probability and lane. -/
theorem pay14_apply : k0_pay14 lanes h lo (k0_pay9 r) zeros rl (ix2 t 0) = (prob (logit H w)) (top2 (prob (logit H w))) := by
  unfold k0_pay14
  refine (best_apply _ t).trans ?_
  simp only [pay13_apply h lo r rl t H w hh hlo hr hrl hH hw]
  refine (fold_best _ (lane (top2 (prob (logit H w)))) fun l => ?_).trans (struck2 (prob (logit H w)) (prob_pos _ (logit_real H w hH hw)) _
    (soft_prob h lo r rl t H w hh hlo hr hrl) (soft_zero h lo r rl t H w hh hlo hr hrl hH hw))
  rcases pick2 (prob (logit H w)) (prob_pos _ (logit_real H w hH hw)) (fun l => k0_pay10 lanes h lo (k0_pay9 r) zeros rl (ix2 t l))
    (soft_prob h lo r rl t H w hh hlo hr hrl) (soft_zero h lo r rl t H w hh hlo hr hrl hH hw) l with h' | h'
  · exact h'.le
  · exact h'.1.le

theorem pay15_apply : k0_pay15 lanes h lo (k0_pay9 r) zeros rl (ix2 t 0) = BitVec.ofNat 32 (lane (top2 (prob (logit H w)))).val := by
  unfold k0_pay15
  refine (least_apply _ _ t).trans ?_
  rw [pay14_apply h lo r rl t H w hh hlo hr hrl hH hw]
  simp only [pay13_apply h lo r rl t H w hh hlo hr hrl hH hw]
  have e2 := struck2 (prob (logit H w)) (prob_pos _ (logit_real H w hH hw)) (fun l => k0_pay10 lanes h lo (k0_pay9 r) zeros rl (ix2 t l))
    (soft_prob h lo r rl t H w hh hlo hr hrl) (soft_zero h lo r rl t H w hh hlo hr hrl hH hw)
  refine fold_least _ _ _ e2 fun l hl => ?_
  rcases pick2 (prob (logit H w)) (prob_pos _ (logit_real H w hH hw)) (fun l => k0_pay10 lanes h lo (k0_pay9 r) zeros rl (ix2 t l))
    (soft_prob h lo r rl t H w hh hlo hr hrl) (soft_zero h lo r rl t H w hh hlo hr hrl hH hw) l with h' | h'
  · rw [e2, hl] at h'; exact absurd h' (lt_irrefl _)
  · exact h'.2

/-- The gates. -/
theorem gates_apply (e : Fin 8) :
    k0_pay20 lanes (k0_pay14 lanes h lo (k0_pay9 r) zeros rl) (k0_pay16 lanes h lo (k0_pay9 r) zeros rl)
      (k0_pay17 lanes h lo (k0_pay9 r) zeros rl) (k0_pay18 lanes h lo (k0_pay9 r) zeros rl) (k0_pay19 lanes h lo (k0_pay9 r) zeros rl)
      (ix2 t (lane e)) = gate (prob (logit H w)) e := by
  have e1 := pay11_apply h lo r rl t H w hh hlo hr hrl hH hw
  have e2 := pay14_apply h lo r rl t H w hh hlo hr hrl hH hw
  have i1 := pay12_apply h lo r rl t H w hh hlo hr hrl hH hw
  have i2 := pay15_apply h lo r rl t H w hh hlo hr hrl hH hw
  have q : ∀ a : Fin 8, (e = a) = (lane e = lane a) := fun a => propext ⟨fun h => by rw [h], fun h => lane_inj h⟩
  unfold gate
  simp only [q]
  rw [← select_lane, ← select_lane, ← e1, ← e2, ← i1, ← i2]
  unfold k0_pay17 k0_pay18 k0_pay19 k0_pay16
  generalize k0_pay11 lanes h lo (k0_pay9 r) zeros rl = p1
  generalize k0_pay14 lanes h lo (k0_pay9 r) zeros rl = p2
  generalize k0_pay12 lanes h lo (k0_pay9 r) zeros rl = j1
  generalize k0_pay15 lanes h lo (k0_pay9 r) zeros rl = j2
  unfold lanes
  pointwise [k0_pay20]

end

end Cert.KernelIdeal.Moe

end
-- ==== Proof.Moe.Tile.lean ====
/- What the scratch holds once a tile's routing has been worked out, at a token of the tile, over the tile's input blocks. -/
module

public import proofs.«01_k».proof.Proof.Moe.Gates

@[expose] public section

set_option maxRecDepth 16384

noncomputable section

namespace Cert.KernelIdeal.Moe

open Idealize.ShloMosaic Idealize.ShloMosaic.TcCoe Idealize.SL.Sem
open Cert.KernelIdeal Cert.KernelIdeal.Gen Cert.Rows

/-- One of two lanes. -/
theorem select_either {α : Type} (l a b : Fin 128) (x y : α) :
    Scalar.select (IntOp.ori (IntOp.cmpi .eq (BitVec.ofNat 32 l.val) (BitVec.ofNat 32 a.val))
      (IntOp.cmpi .eq (BitVec.ofNat 32 l.val) (BitVec.ofNat 32 b.val))) x y = if l = a ∨ l = b then x else y := by
  have q : ∀ c : Fin 128, IntOp.cmpi .eq (BitVec.ofNat 32 l.val) (BitVec.ofNat 32 c.val) = if l = c then 1#1 else 0#1 := fun c => by
    have := select_lane l c (1#1) (0#1)
    rw [← this]
    unfold Scalar.select
    generalize IntOp.cmpi .eq (BitVec.ofNat 32 l.val) (BitVec.ofNat 32 c.val) = v
    revert v; decide
  rw [q, q]
  by_cases ha : l = a
  · rw [if_pos ha, if_pos (Or.inl ha)]
    by_cases hb : l = b
    · rw [if_pos hb]; exact if_pos (by decide)
    · rw [if_neg hb]; exact if_pos (by decide)
  · rw [if_neg ha]
    by_cases hb : l = b
    · rw [if_pos hb, if_pos (Or.inr hb)]; exact if_pos (by decide)
    · rw [if_neg hb, if_neg (not_or.mpr ⟨ha, hb⟩)]; exact if_neg (by decide)

/-- The marks of the two choices. -/
theorem pay21_apply (i1 i2 : IVec S1024x1 32) (t : Fin 1024) (l : Fin 128) :
    k0_pay21 (F := Ideal) lanes i1 i2 (ix2 t l)
      = Scalar.select (IntOp.ori (IntOp.cmpi .eq (BitVec.ofNat 32 l.val) (i1 (ix2 t 0))) (IntOp.cmpi .eq (BitVec.ofNat 32 l.val) (i2 (ix2 t 0)))) (1 : EReal) 0 := by
  unfold lanes
  pointwise [k0_pay21]

/-- The ranks: the marks before the token, counted by the triangle. -/
theorem pay22_apply (i1 i2 : IVec S1024x1 32) (x : Vec Ideal S1024x1024 .bf16) (t : Fin 1024) (l : Fin 128) :
    k0_pay22 (F := Ideal) lanes i1 i2 x (ix2 t l)
      = if 0 < k0_pay21 (F := Ideal) lanes i1 i2 (ix2 t l) then ∑ s, x (ix2 t s) * k0_pay21 (F := Ideal) lanes i1 i2 (ix2 s l)
        else ((-1 : ℝ) : EReal) := by
  rw [← neg_one_word]
  unfold k0_pay22
  generalize k0_pay21 (F := Ideal) lanes i1 i2 = u
  pointwise

/-- The counts. -/
theorem pay102_apply (u : FVec Ideal S1024x128 .f32) (r : Fin 8) (l : Fin 128) : k0_pay102 u (ix2 r l) = ∑ s, u (ix2 s l) := by
  pointwise [k0_pay102]

section
variable (x0 : Vec Ideal S1024x1024 .f32) (x1 x2 : Vec Ideal S1024x512 .bf16) (x3 x4 : Vec Ideal S512x1024 .bf16) (x5 : Vec Ideal S1x1024 .f32)
  (x6 x7 : Vec Ideal S1024x128 .bf16) (x8 : Vec Ideal S1024x1024 .bf16)

/-- A token's residual row and normed row, and its probabilities under the router's weights `w`. -/
def resid (t : Fin 1024) : Fin 1024 → EReal :=
  Rows.mix (fun j => x0 (ix2 t j)) (fun k => x1 (ix2 t k)) (fun k => x2 (ix2 t k)) (fun k j => x3 (ix2 k j)) (fun k j => x4 (ix2 k j))
def normed (t : Fin 1024) : Fin 1024 → EReal := Rows.norm (resid x0 x1 x2 x3 x4 t) fun j => x5 (ix2 0 j)
def probs (w : Fin 1024 → Fin 8 → EReal) (t : Fin 1024) : Fin 8 → EReal := prob (logit (normed x0 x1 x2 x3 x4 x5 t) w)

theorem pay5_row (t j : Fin 1024) : k0_pay5 x0 x1 x3 x2 x4 x5 (ix2 t j) = normed x0 x1 x2 x3 x4 x5 t j := by
  rw [pay5_apply]
  simp only [pay4_apply]
  rfl

theorem initAcc_apply (t j : Fin 1024) : initAcc x0 x1 x2 x3 x4 (ix2 t j) = resid x0 x1 x2 x3 x4 t j := by
  unfold initAcc
  rw [pay103_apply, pay4_apply]
  rfl

theorem initH_apply (t j : Fin 1024) : initH x0 x1 x2 x3 x4 x5 (ix2 t j) = normed x0 x1 x2 x3 x4 x5 t j := by
  unfold initH
  rw [pay8_apply, pay5_row]

variable (w : Fin 1024 → Fin 8 → EReal) (h6 : ∀ k e, x6 (ix2 k (lane e)) = w k e) (h7 : ∀ k l, x7 (ix2 k l) = 0)
  (hg : ∀ j, Num (x5 (ix2 0 j))) (hw : ∀ k e, Num (w k e))
include h6 h7 hg hw

theorem normed_num (t j : Fin 1024) : Num (normed x0 x1 x2 x3 x4 x5 t j) := norm_real _ _ hg j

theorem low_zero (t j : Fin 1024) : k0_pay7 x0 x1 x3 x2 x4 x5 (ix2 t j) = 0 := by
  rw [pay7_apply, pay5_row]
  exact Num.sub_self (norm_real _ _ hg j)

theorem high_row (t j : Fin 1024) : k0_pay6 x0 x1 x3 x2 x4 x5 (ix2 t j) = normed x0 x1 x2 x3 x4 x5 t j := by
  rw [pay6_apply, pay5_row]

theorem choice1_apply (t : Fin 1024) :
    choice1 x0 x1 x2 x3 x4 x5 x6 x7 (ix2 t 0) = BitVec.ofNat 32 (lane (top1 (probs x0 x1 x2 x3 x4 x5 w t))).val :=
  pay12_apply _ _ x6 x7 t (normed x0 x1 x2 x3 x4 x5 t) w (high_row x0 x1 x2 x3 x4 x5 x6 x7 w h6 h7 hg hw t)
    (low_zero x0 x1 x2 x3 x4 x5 x6 x7 w h6 h7 hg hw t) h6 h7 (fun k => norm_real _ _ hg k) hw

theorem choice2_apply (t : Fin 1024) :
    choice2 x0 x1 x2 x3 x4 x5 x6 x7 (ix2 t 0) = BitVec.ofNat 32 (lane (top2 (probs x0 x1 x2 x3 x4 x5 w t))).val :=
  pay15_apply _ _ x6 x7 t (normed x0 x1 x2 x3 x4 x5 t) w (high_row x0 x1 x2 x3 x4 x5 x6 x7 w h6 h7 hg hw t)
    (low_zero x0 x1 x2 x3 x4 x5 x6 x7 w h6 h7 hg hw t) h6 h7 (fun k => norm_real _ _ hg k) hw

theorem initGate_apply (t : Fin 1024) (e : Fin 8) :
    initGate x0 x1 x2 x3 x4 x5 x6 x7 (ix2 t (lane e)) = gate (probs x0 x1 x2 x3 x4 x5 w t) e :=
  gates_apply _ _ x6 x7 t (normed x0 x1 x2 x3 x4 x5 t) w (high_row x0 x1 x2 x3 x4 x5 x6 x7 w h6 h7 hg hw t)
    (low_zero x0 x1 x2 x3 x4 x5 x6 x7 w h6 h7 hg hw t) h6 h7 (fun k => norm_real _ _ hg k) hw e

/-- A mark is one where the token is taken. -/
theorem mark_apply (t : Fin 1024) (e : Fin 8) :
    k0_pay21 (F := Ideal) lanes (choice1 x0 x1 x2 x3 x4 x5 x6 x7) (choice2 x0 x1 x2 x3 x4 x5 x6 x7) (ix2 t (lane e))
      = if taken (probs x0 x1 x2 x3 x4 x5 w t) e then 1 else 0 := by
  rw [pay21_apply, choice1_apply x0 x1 x2 x3 x4 x5 x6 x7 w h6 h7 hg hw, choice2_apply x0 x1 x2 x3 x4 x5 x6 x7 w h6 h7 hg hw, select_either]
  refine if_congr ?_ rfl rfl
  unfold taken
  exact or_congr ⟨fun h => lane_inj h, fun h => by rw [← h]⟩ ⟨fun h => lane_inj h, fun h => by rw [← h]⟩

theorem initCnt_apply (e : Fin 8) : initCnt x0 x1 x2 x3 x4 x5 x6 x7 (ix2 0 (lane e))
    = ((total fun s => taken (probs x0 x1 x2 x3 x4 x5 w s) e : ℝ) : EReal) := by
  unfold initCnt
  rw [pay102_apply]
  simp only [mark_apply x0 x1 x2 x3 x4 x5 x6 x7 w h6 h7 hg hw]
  exact sum_ones Finset.univ _

theorem initRank_apply (h8 : ∀ a b, x8 (ix2 a b) = if b < a then 1 else 0) (t : Fin 1024) (e : Fin 8) :
    initRank x0 x1 x2 x3 x4 x5 x6 x7 x8 (ix2 t (lane e))
      = if taken (probs x0 x1 x2 x3 x4 x5 w t) e then ((rank (fun s => taken (probs x0 x1 x2 x3 x4 x5 w s) e) t : ℝ) : EReal)
        else ((-1 : ℝ) : EReal) := by
  unfold initRank
  rw [pay22_apply]
  simp only [mark_apply x0 x1 x2 x3 x4 x5 x6 x7 w h6 h7 hg hw, h8]
  by_cases ht : taken (probs x0 x1 x2 x3 x4 x5 w t) e
  · rw [if_pos ht, if_pos ht, if_pos zero_lt_one]
    rw [show rank (fun s => taken (probs x0 x1 x2 x3 x4 x5 w s) e) t
      = (Finset.univ.filter fun s => s < t ∧ taken (probs x0 x1 x2 x3 x4 x5 w s) e).card from rfl, ← sum_ones]
    refine Finset.sum_congr rfl fun s _ => ?_
    by_cases h1 : s < t <;> by_cases h2 : taken (probs x0 x1 x2 x3 x4 x5 w s) e <;> simp [h1, h2]
  · rw [if_neg ht, if_neg ht, if_neg (lt_irrefl _)]

theorem rankRows_apply (h8 : ∀ a b, x8 (ix2 a b) = if b < a then 1 else 0) (t : Fin 1024) (e : Fin 8) :
    rankRows (initRank x0 x1 x2 x3 x4 x5 x6 x7 x8) (ix3 e 0 t)
      = if taken (probs x0 x1 x2 x3 x4 x5 w t) e then ((rank (fun s => taken (probs x0 x1 x2 x3 x4 x5 w s) e) t : ℝ) : EReal)
        else ((-1 : ℝ) : EReal) :=
  initRank_apply x0 x1 x2 x3 x4 x5 x6 x7 x8 w h6 h7 hg hw h8 t e

end

end Cert.KernelIdeal.Moe

end
-- ==== Proof.Moe.Reads.lean ====
/- The input blocks of a point of the expert kernel, over the arguments: point `8 i + e` reads tile `i` of the tokens and the
   weights of expert `e`; the router's weights come padded to 128 lanes, and beside them what their rounding drops. -/
module

public import proofs.«01_k».proof.Proof.Moe.Tile
public import proofs.«01_k».proof.Proof.Moe.Data

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen Cert.Rows

variable (m : (ℓ : Loc nD τ sig) → Buf (Elt Ideal) ℓ)

/-- The windows' block indices. -/
theorem idx : ∀ t : Fin cfg0.N, win0_0.index t = ![t.val / 8, 0] ∧ win0_1.index t = ![t.val / 8, 0] ∧ win0_2.index t = ![t.val / 8, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val % 8, 0, 0]
    ∧ win0_10.index t = ![t.val % 8, 0, 0] ∧ win0_11.index t = ![t.val % 8, 0, 0] ∧ win0_12.index t = ![t.val / 8, 0] :=
  (by decide +kernel : ∀ t : Fin grid0.N, _)

/-- The residual stream. -/
theorem rd0 (c : Dev nD) (t : Fin cfg0.N) (r : Fin 1024) (j : Fin 1024) (b : Fin 8) (s : Fin 8192)
    (h : b.val * 8192 + s.val = t.val / 8 * 1024 + r.val) :
    iblk m c 0 t (ix2 r j) = m ((c : Thread nD τ).loc main_arg0) (ix3 b s j) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]

/-- The convolution branch. -/
theorem rd1 (c : Dev nD) (t : Fin cfg0.N) (r : Fin 1024) (j : Fin 512) (b : Fin 8) (s : Fin 8192)
    (h : b.val * 8192 + s.val = t.val / 8 * 1024 + r.val) :
    iblk m c 1 t (ix2 r j) = m ((c : Thread nD τ).loc main_arg1) (ix3 b s j) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]

/-- The attention branch. -/
theorem rd2 (c : Dev nD) (t : Fin cfg0.N) (r : Fin 1024) (j : Fin 512) (b : Fin 8) (s : Fin 8192)
    (h : b.val * 8192 + s.val = t.val / 8 * 1024 + r.val) :
    iblk m c 2 t (ix2 r j) = m ((c : Thread nD τ).loc main_arg2) (ix3 b s j) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]

/-- The upper half of the out-projection. -/
theorem rd3 (c : Dev nD) (t : Fin cfg0.N) (k : Fin 512) (j : Fin 1024) :
    iblk m c 3 t (ix2 k j) = m ((c : Thread nD τ).loc main_arg3) (ix2 ⟨k.val, by omega⟩ j) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]

/-- Its lower half. -/
theorem rd4 (c : Dev nD) (t : Fin cfg0.N) (k : Fin 512) (j : Fin 1024) :
    iblk m c 4 t (ix2 k j) = m ((c : Thread nD τ).loc main_arg3) (ix2 ⟨512 + k.val, by omega⟩ j) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]

/-- The norm's scale. -/
theorem rd5 (c : Dev nD) (t : Fin cfg0.N) (j : Fin 1024) :
    iblk m c 5 t (ix2 0 j) = m ((c : Thread nD τ).loc main_arg4) (ix1 j) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]

/-- The experts' weights. -/
theorem rd9 (c : Dev nD) (t : Fin cfg0.N) (e : Fin 8) (he : t.val % 8 = e.val) (k : Fin 1024) (f : Fin 1408) :
    iblk m c 9 t (ix3 0 k f) = m ((c : Thread nD τ).loc main_arg6) (ix3 e k f) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]
theorem rd10 (c : Dev nD) (t : Fin cfg0.N) (e : Fin 8) (he : t.val % 8 = e.val) (k : Fin 1024) (f : Fin 1408) :
    iblk m c 10 t (ix3 0 k f) = m ((c : Thread nD τ).loc main_arg7) (ix3 e k f) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]
theorem rd11 (c : Dev nD) (t : Fin cfg0.N) (e : Fin 8) (he : t.val % 8 = e.val) (f : Fin 1408) (j : Fin 1024) :
    iblk m c 11 t (ix3 0 f j) = m ((c : Thread nD τ).loc main_arg8) (ix3 e f j) := by
  unfold iblk V
  simp only [hostOps0, hostOps0_1, hostOps0_2, hostOps0_3, hostOps0_4, List.flatten_cons, List.flatten_nil, List.append_nil,
    List.cons_append, List.nil_append]
  blk_simp
  entry_read
  pointwise
  blk_ext [idx t]

/-- The router's weights, widened by 120 lanes of zeros. -/
def padded (w : S1024x8.Idx → EReal) : S1024x128.Idx → EReal :=
  pad S1024x128 ![0, 0] ![0, 120] ![0, 0] w (sitofp (F := Ideal) FTy.f32 (constantI S_ 32 0#32)) pads_S1024x8_S1024x128_000_01200 h_S_

theorem padded_lane (w : S1024x8.Idx → EReal) (k : Fin 1024) (e : Fin 8) : padded w (ix2 k (lane e)) = w (ix2 k e) := by
  unfold padded
  have hin : ∀ a : Fin S1024x8.rank, (![0, 0] : Fin 2 → Nat) a ≤ ((ix2 k (lane e) : S1024x128.Idx) a).val
      ∧ (((ix2 k (lane e) : S1024x128.Idx) a).val - (![0, 0] : Fin 2 → Nat) a) % ((![0, 0] : Fin 2 → Nat) a + 1) = 0
      ∧ (((ix2 k (lane e) : S1024x128.Idx) a).val - (![0, 0] : Fin 2 → Nat) a) / ((![0, 0] : Fin 2 → Nat) a + 1) < S1024x8.size a := by
    intro a
    fin_cases a
    · exact ⟨Nat.zero_le _, Nat.mod_one _, by simpa using k.isLt⟩
    · exact ⟨Nat.zero_le _, Nat.mod_one _, by simpa [lane] using e.isLt⟩
  refine (dif_pos hin).trans (congrArg w ?_)
  funext a
  apply Fin.ext
  fin_cases a
  · simp
  · simp [lane]

theorem padded_num (w : S1024x8.Idx → EReal) (hw : ∀ i, Num (w i)) (i : S1024x128.Idx) : Num (padded w i) := by
  unfold padded pad
  split
  · exact hw _
  · exact ⟨((0#32).toInt : ℝ), rfl⟩

/-- The triangle of ones below the diagonal. -/
def below : S1024x1024.Idx → EReal :=
  select (cmpi CmpIPredicate.slt (iotaInDim S1024x1024 32 1) (iotaInDim S1024x1024 32 0))
    (broadcastInDim S1024x1024 ![] bcast_S_S1024x1024 (constant (F := Ideal) S_ FTy.f32 1065353216#32))
    (broadcastInDim S1024x1024 ![] bcast_S_S1024x1024 (constant (F := Ideal) S_ FTy.f32 0#32))

theorem below_apply (a b : Fin 1024) : below (ix2 a b) = if b < a then (1 : EReal) else 0 := by
  unfold below
  pointwise
  have h32 : ∀ x : Fin 1024, (BitVec.ofNat 32 x.val).toInt = (x.val : ℤ) := fun x => by
    have := x.isLt
    simp [BitVec.toInt]
    omega
  have h : (BitVec.ofNat 32 b.val).slt (BitVec.ofNat 32 a.val) = decide (b < a) := by
    rw [Bool.eq_iff_iff, BitVec.slt_iff_toInt_lt, h32, h32, decide_eq_true_iff]
    exact ⟨fun h => Fin.lt_def.mpr (by omega), fun h => by have := Fin.lt_def.mp h; omega⟩
  unfold Scalar.select IntOp.cmpi
  simp only [h]
  by_cases hl : b < a <;> simp [hl]

theorem rd8 (c : Dev nD) (t : Fin cfg0.N) (a b : Fin 1024) : iblk m c 8 t (ix2 a b) = if b < a then (1 : EReal) else 0 := by
  rw [← below_apply a b]
  unfold iblk V
  simp only [hostOps0, hostOps0_1, hostOps0_2, hostOps0_3, hostOps0_4, List.flatten_cons, List.flatten_nil, List.append_nil,
    List.cons_append, List.nil_append]
  blk_simp
  entry_read
  have hi : ((View.whole main_v20).slice (win0_8.rect t)).emb (ix2 a b) = ix2 a b := by blk_ext [idx t]
  refine Eq.trans ?_ (congrArg below hi)
  rfl

/-- The router's weights, on the experts' lanes. -/
theorem rd6 (c : Dev nD) (t : Fin cfg0.N) (k : Fin 1024) (e : Fin 8) :
    iblk m c 6 t (ix2 k (lane e)) = m ((c : Thread nD τ).loc main_arg5) (ix2 k e) := by
  refine Eq.trans ?_ (padded_lane (m ((c : Thread nD τ).loc main_arg5)) k e)
  unfold iblk V
  simp only [hostOps0, hostOps0_1, hostOps0_2, hostOps0_3, hostOps0_4, List.flatten_cons, List.flatten_nil, List.append_nil,
    List.cons_append, List.nil_append]
  blk_simp
  entry_read
  have hi : ((View.whole main_v1).slice (win0_6.rect t)).emb (ix2 k (lane e)) = ix2 k (lane e) := by blk_ext [idx t]
  refine Eq.trans ?_ (congrArg (padded (m ((c : Thread nD τ).loc main_arg5))) hi)
  rfl

/-- What their rounding drops: each less itself. -/
theorem rd7 (c : Dev nD) (hw : ∀ i, Num (m ((c : Thread nD τ).loc main_arg5) i)) (t : Fin cfg0.N) (k : Fin 1024) (l : Fin 128) :
    iblk m c 7 t (ix2 k l) = (0 : EReal) := by
  refine Eq.trans ?_ (Num.sub_self (padded_num (m ((c : Thread nD τ).loc main_arg5)) hw
    (((View.whole main_v9).slice (win0_7.rect t)).emb (ix2 k l))))
  unfold iblk V
  simp only [hostOps0, hostOps0_1, hostOps0_2, hostOps0_3, hostOps0_4, List.flatten_cons, List.flatten_nil, List.append_nil,
    List.cons_append, List.nil_append]
  blk_simp
  entry_read
  rfl

end Cert.KernelIdeal.Moe

end
-- ==== Proof.Moe.Value.lean ====
/- The array the expert kernel leaves: point `8 i + e` adds expert `e`'s gated answers to tile `i`'s accumulator, which the
   tile's last point writes back. -/
module

public import proofs.«01_k».proof.Proof.Moe.Reads
public import proofs.«01_k».proof.Proof.Moe.Frame

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen Cert.Rows

/-- One expert's gated answer to a token. -/
def share (p : Fin 8 → EReal) (h : Fin 1024 → EReal) (wg wu : Fin 8 → Fin 1024 → Fin 1408 → EReal)
    (wd : Fin 8 → Fin 1408 → Fin 1024 → EReal) (j : Fin 1024) (e : Fin 8) : EReal :=
  gate p e * Rows.swiglu h (wg e) (wu e) (wd e) j

/-- Those of the first `k` experts together. -/
def upto (f : Fin 8 → EReal) (k : ℕ) : EReal := ∑ n ∈ Finset.range k, f ⟨n % 8, Nat.mod_lt _ (by decide)⟩

theorem upto_all (f : Fin 8 → EReal) : upto f 8 = ∑ e, f e := by
  unfold upto
  rw [← Fin.sum_univ_eq_sum_range (fun n => f ⟨n % 8, Nat.mod_lt _ (by decide)⟩) 8]
  refine Finset.sum_congr rfl fun e _ => congrArg f (Fin.ext ?_)
  exact Nat.mod_eq_of_lt e.isLt

theorem upto_succ (f : Fin 8 → EReal) (k : ℕ) (hk : k < 8) : upto f (k + 1) = upto f k + f ⟨k, hk⟩ := by
  unfold upto
  rw [Finset.sum_range_succ]
  congr 2
  exact Fin.ext (Nat.mod_eq_of_lt hk)

/-- What the scratch holds once the first `k` experts have answered a tile: rows `U`, normed rows `H`, probabilities `p`. -/
structure Done (U H : Fin 1024 → Fin 1024 → EReal) (p : Fin 1024 → Fin 8 → EReal) (wg wu : Fin 8 → Fin 1024 → Fin 1408 → EReal)
    (wd : Fin 8 → Fin 1408 → Fin 1024 → EReal) (k : ℕ) (s : Held Ideal) : Prop where
  h : ∀ r j, s.h (ix2 r j) = H r j
  gate : ∀ r e, s.gate (ix2 r (lane e)) = Rows.gate (p r) e
  rt : ∀ r e, s.rt (ix3 e 0 r)
    = if taken (p r) e then ((rank (fun q => taken (p q) e) r : ℝ) : EReal) else ((-1 : ℝ) : EReal)
  cnt : ∀ e, s.cnt (ix2 0 (lane e)) = ((total fun q => taken (p q) e : ℝ) : EReal)
  acc : ∀ r j, s.acc (ix2 r j) = U r j + upto (share (p r) (H r) wg wu wd j) k

variable (m : (ℓ : Loc nD τ sig) → Buf (Elt Ideal) ℓ)

/-- The expert of a point. -/
theorem expert_of (t : Fin cfg0.N) (k : ℕ) (hk : k < 8) (ht : t.val % 8 = k) : grid0.coords t 1 = ⟨k, hk⟩ := by
  have e1 : (grid0.coords t 1).val = t.val / 1 % 8 := Pipeline.Grid.coords_val t 1 (by decide) rfl
  exact Fin.ext (by rw [e1]; simpa using ht)

/-- A point adds its expert's answers. -/
theorem Done.step {U H : Fin 1024 → Fin 1024 → EReal} {p : Fin 1024 → Fin 8 → EReal} {wg wu : Fin 8 → Fin 1024 → Fin 1408 → EReal}
    {wd : Fin 8 → Fin 1408 → Fin 1024 → EReal} {k : ℕ} {s : Held Ideal} (d : Done U H p wg wu wd k s) (c : Dev nD) (t : Fin cfg0.N)
    (hk : k < 8) (ht : t.val % 8 = k) (h9 : ∀ a f, iblk m c 9 t (ix3 0 a f) = wg ⟨k, hk⟩ a f)
    (h10 : ∀ a f, iblk m c 10 t (ix3 0 a f) = wu ⟨k, hk⟩ a f) (h11 : ∀ f j, iblk m c 11 t (ix3 0 f j) = wd ⟨k, hk⟩ f j) :
    Done U H p wg wu wd (k + 1) (s.next m c t) where
  h r j := by rw [next_h]; exact d.h r j
  gate r e := by rw [next_gate]; exact d.gate r e
  rt r e := by rw [next_rt]; exact d.rt r e
  cnt e := by rw [next_cnt]; exact d.cnt e
  acc r j := by
    rw [next_acc]
    refine (accNext_apply _ s.gate s.rt s.cnt s.h _ _ _ s.acc ⟨k, hk⟩ (expert_of t k hk ht) (fun q => taken (p q) ⟨k, hk⟩)
      (fun r => d.rt r ⟨k, hk⟩) (d.cnt ⟨k, hk⟩) (fun q hq => (d.gate q ⟨k, hk⟩).trans (gate_idle hq)) r j).trans ?_
    rw [d.acc, d.gate, upto_succ _ _ hk, ← add_assoc]
    simp only [d.h, h9, h10, h11]
    rfl

/-! ## A tile over the arguments -/

/-- Token `(b, s)`'s residual row. -/
def stream (x : Vec Ideal S8x8192x1024 .f32) (yc at' : Vec Ideal S8x8192x512 .bf16) (w : Vec Ideal S1024x1024 .f32) (b : Fin 8)
    (s : Fin 8192) : Fin 1024 → EReal :=
  Rows.mix (fun j => x (ix3 b s j)) (fun k => yc (ix3 b s k)) (fun k => at' (ix3 b s k))
    (fun k j => w (ix2 ⟨k.val, by omega⟩ j)) (fun k j => w (ix2 ⟨512 + k.val, by omega⟩ j))

/-- Its normed row, and its probabilities. -/
def normal (u : Fin 1024 → EReal) (g : Vec Ideal S1024 .f32) : Fin 1024 → EReal := Rows.norm u fun j => g (ix1 j)
def odds (h : Fin 1024 → EReal) (r : Vec Ideal S1024x8 .f32) : Fin 8 → EReal := prob (logit h fun k e => r (ix2 k e))

/-- The layer's row. -/
def ROW (x : Vec Ideal S8x8192x1024 .f32) (yc at' : Vec Ideal S8x8192x512 .bf16) (w : Vec Ideal S1024x1024 .f32) (g : Vec Ideal S1024 .f32)
    (r : Vec Ideal S1024x8 .f32) (wg wu : Vec Ideal S8x1024x1408 .f32) (wd : Vec Ideal S8x1408x1024 .f32) (b : Fin 8) (s : Fin 8192) :
    Fin 1024 → EReal :=
  fun j => stream x yc at' w b s j + ∑ e, share (odds (normal (stream x yc at' w b s) g) r) (normal (stream x yc at' w b s) g)
    (fun e k f => wg (ix3 e k f)) (fun e k f => wu (ix3 e k f)) (fun e f j => wd (ix3 e f j)) j e

/-- Row `r` of tile `i`: its batch and its place. -/
def rowB (i : Fin 64) (r : Fin 1024) : Fin 8 := ⟨(i.val * 1024 + r.val) / 8192, by omega⟩
def rowS (i : Fin 64) (r : Fin 1024) : Fin 8192 := ⟨(i.val * 1024 + r.val) % 8192, by omega⟩

abbrev tileU (c : Dev nD) (i : Fin 64) (r : Fin 1024) : Fin 1024 → EReal :=
  stream (m ((c : Thread nD τ).loc main_arg0)) (m ((c : Thread nD τ).loc main_arg1)) (m ((c : Thread nD τ).loc main_arg2))
    (m ((c : Thread nD τ).loc main_arg3)) (rowB i r) (rowS i r)
abbrev tileH (c : Dev nD) (i : Fin 64) (r : Fin 1024) : Fin 1024 → EReal :=
  normal (tileU m c i r) (m ((c : Thread nD τ).loc main_arg4))
abbrev tileP (c : Dev nD) (i : Fin 64) (r : Fin 1024) : Fin 8 → EReal :=
  odds (tileH m c i r) (m ((c : Thread nD τ).loc main_arg5))

theorem resid_read (c : Dev nD) (t : Fin cfg0.N) (i : Fin 64) (hi : t.val / 8 = i.val) (r : Fin 1024) :
    resid (iblk m c 0 t) (iblk m c 1 t) (iblk m c 2 t) (iblk m c 3 t) (iblk m c 4 t) r = tileU m c i r := by
  have hb : (rowB i r).val * 8192 + (rowS i r).val = t.val / 8 * 1024 + r.val := by
    rw [hi]; unfold rowB rowS; dsimp only; omega
  have e0 := fun j => rd0 m c t r j (rowB i r) (rowS i r) hb
  have e1 := fun j => rd1 m c t r j (rowB i r) (rowS i r) hb
  have e2 := fun j => rd2 m c t r j (rowB i r) (rowS i r) hb
  unfold resid tileU stream
  simp only [e0, e1, e2, rd3, rd4]

theorem normed_read (c : Dev nD) (t : Fin cfg0.N) (i : Fin 64) (hi : t.val / 8 = i.val) (r : Fin 1024) :
    normed (iblk m c 0 t) (iblk m c 1 t) (iblk m c 2 t) (iblk m c 3 t) (iblk m c 4 t) (iblk m c 5 t) r = tileH m c i r := by
  unfold normed tileH normal
  rw [resid_read m c t i hi r]
  simp only [rd5]

/-- The precondition: the norm's scale and the router's weights are numbers. -/
def Ready (c : Dev nD) : Prop :=
  (∀ i, Num (m ((c : Thread nD τ).loc main_arg4) i)) ∧ ∀ i, Num (m ((c : Thread nD τ).loc main_arg5) i)

theorem probs_read (c : Dev nD) (t : Fin cfg0.N) (i : Fin 64) (hi : t.val / 8 = i.val) (r : Fin 1024) :
    probs (iblk m c 0 t) (iblk m c 1 t) (iblk m c 2 t) (iblk m c 3 t) (iblk m c 4 t) (iblk m c 5 t)
      (fun k e => m ((c : Thread nD τ).loc main_arg5) (ix2 k e)) r = tileP m c i r := by
  unfold probs tileP odds
  rw [normed_read m c t i hi r]

/-- The routing of a tile leaves its residual rows, before any expert. -/
theorem Done.base (c : Dev nD) (hc : Ready m c) (t : Fin cfg0.N) (i : Fin 64) (hi : t.val / 8 = i.val) :
    Done (tileU m c i) (tileH m c i) (tileP m c i) (fun e k f => m ((c : Thread nD τ).loc main_arg6) (ix3 e k f))
      (fun e k f => m ((c : Thread nD τ).loc main_arg7) (ix3 e k f)) (fun e f j => m ((c : Thread nD τ).loc main_arg8) (ix3 e f j))
      0 (routed m c t) := by
  have h6 := fun k e => rd6 m c t k e
  have h7 := fun k l => rd7 m c hc.2 t k l
  have h8 := fun a b => rd8 m c t a b
  have hg : ∀ j, Num (iblk m c 5 t (ix2 0 j)) := fun j => by rw [rd5]; exact hc.1 _
  have hw : ∀ k e, Num (m ((c : Thread nD τ).loc main_arg5) (ix2 k e)) := fun k e => hc.2 _
  have ep := fun r => probs_read m c t i hi r
  constructor
  · intro r j
    rw [routed_h]
    refine (initH_apply _ _ _ _ _ _ r j).trans ?_
    rw [normed_read m c t i hi r]
  · intro r e
    rw [routed_gate]
    refine (initGate_apply _ _ _ _ _ _ _ _ (fun k e => m ((c : Thread nD τ).loc main_arg5) (ix2 k e)) h6 h7 hg hw r e).trans ?_
    rw [ep]
  · intro r e
    rw [routed_rt]
    refine (rankRows_apply _ _ _ _ _ _ _ _ _ (fun k e => m ((c : Thread nD τ).loc main_arg5) (ix2 k e)) h6 h7 hg hw h8 r e).trans ?_
    simp only [ep]
  · intro e
    rw [routed_cnt]
    refine (initCnt_apply _ _ _ _ _ _ _ _ (fun k e => m ((c : Thread nD τ).loc main_arg5) (ix2 k e)) h6 h7 hg hw e).trans ?_
    simp only [ep]
  · intro r j
    rw [routed_acc]
    refine (initAcc_apply _ _ _ _ _ r j).trans ?_
    rw [resid_read m c t i hi r]
    unfold upto
    rw [Finset.range_zero, Finset.sum_empty, add_zero]

/-- After point `8 i + e` the first `e + 1` experts have answered tile `i`. -/
theorem held_done (c : Dev nD) (hc : Ready m c) (i : Fin 64) (k : ℕ) (hk : k < 8) (n : ℕ) (hn : n < cfg0.N) (h : n = 8 * i.val + k) :
    Done (tileU m c i) (tileH m c i) (tileP m c i) (fun e k f => m ((c : Thread nD τ).loc main_arg6) (ix3 e k f))
      (fun e k f => m ((c : Thread nD τ).loc main_arg7) (ix3 e k f)) (fun e f j => m ((c : Thread nD τ).loc main_arg8) (ix3 e f j))
      (k + 1) (heldAt m c n hn) := by
  induction k generalizing n with
  | zero =>
    have h0 : (⟨n, hn⟩ : Fin cfg0.N).val % 8 = 0 := by dsimp only; omega
    rw [show heldAt m c n hn = _ from heldAt_first m c ⟨n, hn⟩ h0]
    exact (Done.base m c hc ⟨n, hn⟩ i (by dsimp only; omega)).step m c ⟨n, hn⟩ hk h0
      (rd9 m c ⟨n, hn⟩ ⟨0, hk⟩ h0) (rd10 m c ⟨n, hn⟩ ⟨0, hk⟩ h0) (rd11 m c ⟨n, hn⟩ ⟨0, hk⟩ h0)
  | succ k ih =>
    obtain ⟨n, rfl⟩ : ∃ n', n = n' + 1 := ⟨n - 1, by omega⟩
    have h0 : (⟨n + 1, hn⟩ : Fin cfg0.N).val % 8 = k + 1 := by dsimp only; omega
    rw [heldAt_next m c n hn (by omega)]
    exact (ih (by omega) n (Nat.lt_of_succ_lt hn) (by omega)).step m c ⟨n + 1, hn⟩ hk h0
      (rd9 m c ⟨n + 1, hn⟩ ⟨k + 1, hk⟩ h0) (rd10 m c ⟨n + 1, hn⟩ ⟨k + 1, hk⟩ h0) (rd11 m c ⟨n + 1, hn⟩ ⟨k + 1, hk⟩ h0)

/-- The array of 65536 rows the kernel leaves. -/
theorem final (c : Dev nD) (hc : Ready m c) : (dats m 0 c).arrAt 12 (cfgs 0).N = fun i : S65536x1024.Idx =>
    ROW (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      ⟨(i 0).val / 8192, by have := (i 0).isLt; simp at this; omega⟩ ⟨(i 0).val % 8192, by omega⟩ (i 1) := by
  refine (dats m 0 c).arrAt_eq_of_covers 12 _ (by decide +kernel) fun t hf y => ?_
  have h7 : t.val % 8 = 7 := by
    by_contra hne
    have := (out_idle t fun hl => hne ((last_iff t).mp hl)).2
    simp_all
  have hlt : t.val < 512 := Nat.lt_of_lt_of_eq t.isLt N_0
  have d := held_done m c hc ⟨t.val / 8, by omega⟩ 7 (by decide) t.val t.isLt (by dsimp only; omega)
  blk_simp
  rw [after_12]
  have hy : (((View.whole main_v21).slice (win0_12.rect t)).emb y 1) = y 1 := by
    apply Fin.ext
    blk_simp [idx t]
  rw [hy]
  have ht : win0_12.index t 0 = t.val / 8 := by rw [(idx t).2.2.2.2.2.2.2.2.2.2.2.2]; rfl
  simp only [ht]
  obtain ⟨r, j, rfl⟩ : ∃ (r : Fin 1024) (j : Fin 1024), y = ix2 r j := ⟨y 0, y 1, by ext a; fin_cases a <;> rfl⟩
  simp only [ix2_0, ix2_1]
  refine (d.acc r j).trans ?_
  rw [upto_all]
  rfl

end Cert.KernelIdeal.Moe

end
-- ==== Proof.Moe.Algebraic.lean ====
/- The routed layer's value claim: kernel and reference leave the same rows, as extended reals. -/
module

public import proofs.«01_k».proof.Defs
public import proofs.«01_k».proof.Proof.Moe.Line
public import proofs.«01_k».proof.Proof.Moe.Value
public import Idealize.ShloMosaic.Lib.Claim

@[expose] public section

set_option maxRecDepth 16384

noncomputable section

namespace Cert.ReferenceIdeal.Moe

open Idealize.ShloMosaic Idealize.ShloMosaic.TcCoe Idealize.SL.Sem
open Cert.ReferenceIdeal Cert.ReferenceIdeal.Gen Cert.Rows

/-- The reference's result at token `(b, t)`. -/
theorem layer_apply (x : FVec Ideal S8x8192x1024 .f32) (yc at' : FVec Ideal S8x8192x512 .bf16) (w : FVec Ideal S1024x1024 .f32)
    (g : FVec Ideal S1024 .f32) (r : FVec Ideal S1024x8 .f32) (wg wu : FVec Ideal S8x1024x1408 .f32) (wd : FVec Ideal S8x1408x1024 .f32)
    (b : Fin 8) (t : Fin 8192) (j : Fin 1024) :
    LAYER x yc at' w g r wg wu wd (ix3 b t j) = Cert.KernelIdeal.Moe.ROW x yc at' w g r wg wu wd b t j := by
  unfold LAYER
  rw [add_at, MIX_apply, SUM_apply]
  simp only [ROUTE_apply, ODDS_apply, NORM_apply, MIX_apply]
  rfl

/-- The reference's result, row `i` of 65536. -/
theorem ref_apply (x : FVec Ideal S8x8192x1024 .f32) (yc at' : FVec Ideal S8x8192x512 .bf16) (w : FVec Ideal S1024x1024 .f32)
    (g : FVec Ideal S1024 .f32) (r : FVec Ideal S1024x8 .f32) (wg wu : FVec Ideal S8x1024x1408 .f32) (wd : FVec Ideal S8x1408x1024 .f32)
    (i : S65536x1024.Idx) :
    shapeCast S65536x1024 (LAYER x yc at' w g r wg wu wd) shapeCasts_S8x8192x1024_S65536x1024 i
      = Cert.KernelIdeal.Moe.ROW x yc at' w g r wg wu wd
        ⟨(i 0).val / 8192, by have := (i 0).isLt; simp at this; omega⟩ ⟨(i 0).val % 8192, by omega⟩ (i 1) := by
  pointwise
  exact layer_apply _ _ _ _ _ _ _ _ _ _ _ _

end Cert.ReferenceIdeal.Moe

namespace Cert.KernelIdeal.Moe

open Idealize.ShloMosaic Idealize.ShloMosaic.TcCoe Idealize.SL.Sem
open Cert.KernelIdeal Cert.KernelIdeal.Gen Cert.Rows
attribute [local instance] Cert.KernelIdeal.Gen.facts Cert.ReferenceIdeal.Gen.facts

/-- The call's run at its arrays alone. -/
theorem ends (m : (ℓ : Loc nD τ sig) → Buf (Elt Ideal) ℓ) (ρ : Dev nD → PrngReg) :
    θ_run (defs (F := Ideal)) (onTc (τ := τ) (main (F := Ideal))) (s₀ m ρ) (Pipeline.FramePost cfgs (dats m) 0 (V m)) :=
  (θ_run defs _ _).mono (fun _ h => h.1) (run m ρ)

/-- A comparison that says "below infinity" says its number is real. -/
theorem num_of_word {x : EReal} (h : BitVec.ofBool (decide (max x (-x) < Ideal.ofBits .f32 0x7F800000#32)) = 1#1) : Num x := by
  rw [top_word] at h
  refine real_of_below ?_
  by_contra hn
  rw [decide_eq_false hn] at h
  exact absurd h (by decide)

/-- The precondition makes the norm's scale and the router's weights real numbers. -/
theorem ready [hP : Cert.Pre_finite_router.Facts] (m : (ℓ : Loc nD τ sig) → Buf (Elt Ideal) ℓ) (h : Cert.Pre_KernelIdeal_finite_router m)
    (c : Dev nD) : Ready m c :=
  ⟨fun i => num_of_word (congrFun (h c).1 i), fun i => num_of_word (congrFun (h c).2 i)⟩

/-- The routed kernel's result is the reference's, as extended reals, when the norm's scale and the router's weights are finite. -/
theorem algebraic [hP : Cert.Pre_finite_router.Facts] : Cert.algebraic_KernelIdeal_ReferenceIdeal_pre_finite_router := by
  pair_intro
  · run_from Cert.KernelIdeal.Moe.ends m g
    exacts [V_main_arg0 m c, V_main_arg1 m c, V_main_arg2 m c, V_main_arg3 m c, V_main_arg4 m c, V_main_arg5 m c, V_main_arg6 m c, V_main_arg7 m c, V_main_arg8 m c]
  · run_from Cert.ReferenceIdeal.Moe.ends m' g'
    · refine (Cert.ReferenceIdeal.Moe.line_is _).trans ?_
      rw [final m c (ready m hpre c)]
      obtain ⟨h0, h1, h2, h3, h4, h5, h6, h7, h8⟩ := hagree c
      rw [← h0, ← h1, ← h2, ← h3, ← h4, ← h5, ← h6, ← h7, ← h8]
      funext i
      exact Cert.ReferenceIdeal.Moe.ref_apply _ _ _ _ _ _ _ _ _ i
    · exact (Cert.ReferenceIdeal.Moe.line_keeps _ _ (by decide)).trans ((hagree c).1)
    · exact (Cert.ReferenceIdeal.Moe.line_keeps _ _ (by decide)).trans ((hagree c).2.1)
    · exact (Cert.ReferenceIdeal.Moe.line_keeps _ _ (by decide)).trans ((hagree c).2.2.1)
    · exact (Cert.ReferenceIdeal.Moe.line_keeps _ _ (by decide)).trans ((hagree c).2.2.2.1)
    · exact (Cert.ReferenceIdeal.Moe.line_keeps _ _ (by decide)).trans ((hagree c).2.2.2.2.1)
    · exact (Cert.ReferenceIdeal.Moe.line_keeps _ _ (by decide)).trans ((hagree c).2.2.2.2.2.1)
    · exact (Cert.ReferenceIdeal.Moe.line_keeps _ _ (by decide)).trans ((hagree c).2.2.2.2.2.2.1)
    · exact (Cert.ReferenceIdeal.Moe.line_keeps _ _ (by decide)).trans ((hagree c).2.2.2.2.2.2.2.1)
    · exact (Cert.ReferenceIdeal.Moe.line_keeps _ _ (by decide)).trans ((hagree c).2.2.2.2.2.2.2.2)

end Cert.KernelIdeal.Moe

end
-- ==== Proof.lean ====
/- The claims of the two feed-forward calls, each program's in turn. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Dense.Reference
public import proofs.«01_k».proof.Proof.Moe.Printed
public import proofs.«01_k».proof.Proof.Moe.Algebraic
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts

/-- The precondition's two broadcasts fit. -/
theorem router_facts : Cert.Pre_finite_router.Facts := by
  constructor <;> decide

/-- The routed reference leaves its arguments and every counter as they were. -/
theorem routed_reference : Cert.quiescent_ReferenceIdeal := by
  intro m g _
  hlo_run
  · intro c; simp
  · exact Idealize.ShloMosaic.sem_eq_zero_of_no_sems (by decide) _

/-- Everything the certificate claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, router_facts,
  Cert.Kernel.Moe.quiet, fun m ρ _ => Cert.KernelIdeal.Moe.quiet m ρ, fun m ρ _ => Cert.KernelIdeal.Moe.quiet m ρ,
  routed_reference, fun m ρ _ => routed_reference m ρ trivial,
  fun m ρ _ => Cert.Kernel2.Gen.frame m ρ, fun m ρ _ => Cert.Kernel2Ideal.Gen.frame m ρ, by
    intro m g _
    hlo_run
    · intro c; simp
    · exact Idealize.ShloMosaic.sem_eq_zero_of_no_sems (by decide) _, trivial,
  @Cert.KernelIdeal.Moe.algebraic router_facts, trivial, Cert.Kernel2Ideal.Dense.algebraic⟩

end Cert.Proof

end
